-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x512x8x64 : S_.BroadcastsInDim S8x512x8x64 (![] : Fin 0 → Fin S8x512x8x64.rank)
  reducesTo_S8x512x8x64_S_d0_1_2_3 : S8x512x8x64.ReducesTo [0, 1, 2, 3] S_

variable [Facts]

def fn {F : FTy → Type} [FloatOps F] (main_arg0 : FVec F S8x1x8x64 .bf16) (main_arg1 : FVec F S8x512x8x64 .bf16) (main_arg2 : FVec F S8x512x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x512x8x64 .bf16 := Host.absf main_arg1
  let main_cst_0 : FVec F S_ .bf16 := constant S_ .bf16 0x7F80#16
  let main_v5 : FVec F S8x512x8x64 .bf16 := broadcastInDim S8x512x8x64 ![] bcast_S_S8x512x8x64 main_cst_0
  let main_v6 : IVec S8x512x8x64 1 := cmpf .olt main_v4 main_v5
  let main_c_1 : IVec S_ 1 := constantI S_ 1 1#1
  let main_v7 : IVec S_ 1 := (fun x v => Host.reduce IntOp.andi x v reducesTo_S8x512x8x64_S_d0_1_2_3 h_S_) main_v6 main_c_1
  let main_v8 : IVec S_ 1 := andi main_v3 main_v7
  main_v8
-- ==== Pre_finite_queries_and_keys_ReferenceIdeal.lean ====
abbrev S8x1x8x64 : Shape := ⟨4, ![8, 1, 8, 64]⟩
abbrev S8x2048x8x64 : Shape := ⟨4, ![8, 2048, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_

variable [Facts]

def fn {F : FTy → Type} [FloatOps F] (main_arg0 : FVec F S8x1x8x64 .bf16) (main_arg1 : FVec F S8x2048x8x64 .bf16) (main_arg2 : FVec F S8x2048x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x2048x8x64 .bf16 := Host.absf main_arg1
  let main_cst_0 : FVec F S_ .bf16 := constant S_ .bf16 0x7F80#16
  let main_v5 : FVec F S8x2048x8x64 .bf16 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  main_v8
-- ==== Kernel.lean ====
abbrev S8x1x8x64 : Shape := ⟨4, ![8, 1, 8, 64]⟩
abbrev S8x512x8x64 : Shape := ⟨4, ![8, 512, 8, 64]⟩
abbrev S8x8x64x512 : Shape := ⟨4, ![8, 8, 64, 512]⟩
abbrev S64x64x512 : Shape := ⟨3, ![64, 64, 512]⟩
abbrev S8x8x1x64 : Shape := ⟨4, ![8, 8, 1, 64]⟩
abbrev S64x64 : Shape := ⟨2, ![64, 64]⟩
abbrev S64x66 : Shape := ⟨2, ![64, 66]⟩
abbrev S3x64x66 : Shape := ⟨3, ![3, 64, 66]⟩
abbrev S3x4 : Shape := ⟨2, ![3, 4]⟩
abbrev S_ : Shape := ⟨0, ![]⟩
abbrev S16x64 : Shape := ⟨2, ![16, 64]⟩
abbrev S16x64x512 : Shape := ⟨3, ![16, 64, 512]⟩
abbrev S16x64x1 : Shape := ⟨3, ![16, 64, 1]⟩
abbrev S16x512 : Shape := ⟨2, ![16, 512]⟩
abbrev S16 : Shape := ⟨1, ![16]⟩
abbrev S16x1 : Shape := ⟨2, ![16, 1]⟩
abbrev S16x1x512 : Shape := ⟨3, ![16, 1, 512]⟩
abbrev S16x66 : Shape := ⟨2, ![16, 66]⟩
abbrev S1x1 : Shape := ⟨2, ![1, 1]⟩
abbrev S1x16x66 : Shape := ⟨3, ![1, 16, 66]⟩
abbrev S64x1 : Shape := ⟨2, ![64, 1]⟩
abbrev S1x64x1 : Shape := ⟨3, ![1, 64, 1]⟩
abbrev S1x64x64 : Shape := ⟨3, ![1, 64, 64]⟩
abbrev S8x8x64 : Shape := ⟨3, ![8, 8, 64]⟩

abbrev nBuf : Space → Nat
  | .hbm => 12
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S8x8x64x512, .bf16⟩
  | .hbm, ⟨4, _⟩ => ⟨S64x64x512, .bf16⟩
  | .hbm, ⟨5, _⟩ => ⟨S8x8x64x512, .bf16⟩
  | .hbm, ⟨6, _⟩ => ⟨S64x64x512, .bf16⟩
  | .hbm, ⟨7, _⟩ => ⟨S8x8x1x64, .bf16⟩
  | .hbm, ⟨8, _⟩ => ⟨S64x64, .bf16⟩
  | .hbm, ⟨9, _⟩ => ⟨S64x64, .f32⟩
  | .hbm, ⟨10, _⟩ => ⟨S8x8x64, .f32⟩
  | .hbm, ⟨11, _⟩ => ⟨S8x1x8x64, .f32⟩
  | .local _ .vmem, ⟨0, _⟩ => ⟨S64x64, .bf16⟩
  | .local _ .vmem, ⟨1, _⟩ => ⟨S64x64x512, .bf16⟩
  | .local _ .vmem, ⟨2, _⟩ => ⟨S64x64x512, .bf16⟩
  | .local _ .vmem, ⟨3, _⟩ => ⟨S64x64, .f32⟩
  | .local _ .vmem, ⟨4, _⟩ => ⟨S64x66, .f32⟩
  | .local _ .vmem, ⟨5, _⟩ => ⟨S3x64x66, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_dev4 (d0 : Dev nD) : Nat :=
  let c0_i32_63 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_62 : BitVec 32 := 16#32
  let v106 : BitVec 32 := Scalar.muli v2 c16_i32_62
  let v107 : BitVec 32 := Scalar.addi c0_i32_63 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_64 : BitVec 32 := 4#32
  let v108 : BitVec 32 := Scalar.muli v5 c4_i32_64
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v95 : BitVec 32 := Scalar.addi v8 c1_i32_50
  let c4_i32_51 : BitVec 32 := 4#32
  let c0_i32_52 : BitVec 32 := 0#32
  let v96 : BitVec 1 := Scalar.cmpi .eq c4_i32_51 c0_i32_52
  let c1_i32_53 : BitVec 32 := 1#32
  let v97 : BitVec 32 := Scalar.select v96 c1_i32_53 c4_i32_51
  let v98 : BitVec 32 := Scalar.remsi v95 v97
  let c0_i32_55 : BitVec 32 := 0#32
  let v100 : BitVec 1 := Scalar.cmpi .slt v98 c0_i32_55
  let c0_i32_56 : BitVec 32 := 0#32
  let v101 : BitVec 1 := Scalar.cmpi .slt v97 c0_i32_56
  let v102 : BitVec 1 := Scalar.xori v100 v101
  let c0_i32_54 : BitVec 32 := 0#32
  let v99 : BitVec 1 := Scalar.cmpi .ne v98 c0_i32_54
  let v103 : BitVec 1 := Scalar.andi v102 v99
  let v104 : BitVec 32 := Scalar.addi v98 v97
  let v105 : BitVec 32 := Scalar.select v103 v104 v98
  let c1_i32_65 : BitVec 32 := 1#32
  let v110 : BitVec 32 := Scalar.muli v105 c1_i32_65
  let v111 : BitVec 32 := Scalar.addi v109 v110
  v111.toNat
def k0_dev5 (d0 : Dev nD) : Nat :=
  let c0_i32_83 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_82 : BitVec 32 := 16#32
  let v130 : BitVec 32 := Scalar.muli v2 c16_i32_82
  let v131 : BitVec 32 := Scalar.addi c0_i32_83 v130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_84 : BitVec 32 := 4#32
  let v132 : BitVec 32 := Scalar.muli v5 c4_i32_84
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_70 : BitVec 32 := 2#32
  let v119 : BitVec 32 := Scalar.addi v8 c2_i32_70
  let c4_i32_71 : BitVec 32 := 4#32
  let c0_i32_72 : BitVec 32 := 0#32
  let v120 : BitVec 1 := Scalar.cmpi .eq c4_i32_71 c0_i32_72
  let c1_i32_73 : BitVec 32 := 1#32
  let v121 : BitVec 32 := Scalar.select v120 c1_i32_73 c4_i32_71
  let v122 : BitVec 32 := Scalar.remsi v119 v121
  let c0_i32_75 : BitVec 32 := 0#32
  let v124 : BitVec 1 := Scalar.cmpi .slt v122 c0_i32_75
  let c0_i32_76 : BitVec 32 := 0#32
  let v125 : BitVec 1 := Scalar.cmpi .slt v121 c0_i32_76
  let v126 : BitVec 1 := Scalar.xori v124 v125
  let c0_i32_74 : BitVec 32 := 0#32
  let v123 : BitVec 1 := Scalar.cmpi .ne v122 c0_i32_74
  let v127 : BitVec 1 := Scalar.andi v126 v123
  let v128 : BitVec 32 := Scalar.addi v122 v121
  let v129 : BitVec 32 := Scalar.select v127 v128 v122
  let c1_i32_85 : BitVec 32 := 1#32
  let v134 : BitVec 32 := Scalar.muli v129 c1_i32_85
  let v135 : BitVec 32 := Scalar.addi v133 v134
  v135.toNat
def k0_dev6 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v154 : BitVec 32 := Scalar.muli v2 c16_i32_102
  let v155 : BitVec 32 := Scalar.addi c0_i32_103 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v156 : BitVec 32 := Scalar.muli v5 c4_i32_104
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_90 : BitVec 32 := 3#32
  let v143 : BitVec 32 := Scalar.addi v8 c3_i32_90
  let c4_i32_91 : BitVec 32 := 4#32
  let c0_i32_92 : BitVec 32 := 0#32
  let v144 : BitVec 1 := Scalar.cmpi .eq c4_i32_91 c0_i32_92
  let c1_i32_93 : BitVec 32 := 1#32
  let v145 : BitVec 32 := Scalar.select v144 c1_i32_93 c4_i32_91
  let v146 : BitVec 32 := Scalar.remsi v143 v145
  let c0_i32_95 : BitVec 32 := 0#32
  let v148 : BitVec 1 := Scalar.cmpi .slt v146 c0_i32_95
  let c0_i32_96 : BitVec 32 := 0#32
  let v149 : BitVec 1 := Scalar.cmpi .slt v145 c0_i32_96
  let v150 : BitVec 1 := Scalar.xori v148 v149
  let c0_i32_94 : BitVec 32 := 0#32
  let v147 : BitVec 1 := Scalar.cmpi .ne v146 c0_i32_94
  let v151 : BitVec 1 := Scalar.andi v150 v147
  let v152 : BitVec 32 := Scalar.addi v146 v145
  let v153 : BitVec 32 := Scalar.select v151 v152 v146
  let c1_i32_105 : BitVec 32 := 1#32
  let v158 : BitVec 32 := Scalar.muli v153 c1_i32_105
  let v159 : BitVec 32 := Scalar.addi v157 v158
  v159.toNat
def k0_dev7 (d0 : Dev nD) : Nat :=
  let c0_i32_137 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_136 : BitVec 32 := 16#32
  let v212 : BitVec 32 := Scalar.muli v2 c16_i32_136
  let v213 : BitVec 32 := Scalar.addi c0_i32_137 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_138 : BitVec 32 := 4#32
  let v214 : BitVec 32 := Scalar.muli v5 c4_i32_138
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v201 : BitVec 32 := Scalar.addi v8 c1_i32_124
  let c4_i32_125 : BitVec 32 := 4#32
  let c0_i32_126 : BitVec 32 := 0#32
  let v202 : BitVec 1 := Scalar.cmpi .eq c4_i32_125 c0_i32_126
  let c1_i32_127 : BitVec 32 := 1#32
  let v203 : BitVec 32 := Scalar.select v202 c1_i32_127 c4_i32_125
  let v204 : BitVec 32 := Scalar.remsi v201 v203
  let c0_i32_129 : BitVec 32 := 0#32
  let v206 : BitVec 1 := Scalar.cmpi .slt v204 c0_i32_129
  let c0_i32_130 : BitVec 32 := 0#32
  let v207 : BitVec 1 := Scalar.cmpi .slt v203 c0_i32_130
  let v208 : BitVec 1 := Scalar.xori v206 v207
  let c0_i32_128 : BitVec 32 := 0#32
  let v205 : BitVec 1 := Scalar.cmpi .ne v204 c0_i32_128
  let v209 : BitVec 1 := Scalar.andi v208 v205
  let v210 : BitVec 32 := Scalar.addi v204 v203
  let v211 : BitVec 32 := Scalar.select v209 v210 v204
  let c1_i32_139 : BitVec 32 := 1#32
  let v216 : BitVec 32 := Scalar.muli v211 c1_i32_139
  let v217 : BitVec 32 := Scalar.addi v215 v216
  v217.toNat
def k0_dev8 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v236 : BitVec 32 := Scalar.muli v2 c16_i32_156
  let v237 : BitVec 32 := Scalar.addi c0_i32_157 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v238 : BitVec 32 := Scalar.muli v5 c4_i32_158
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_144 : BitVec 32 := 2#32
  let v225 : BitVec 32 := Scalar.addi v8 c2_i32_144
  let c4_i32_145 : BitVec 32 := 4#32
  let c0_i32_146 : BitVec 32 := 0#32
  let v226 : BitVec 1 := Scalar.cmpi .eq c4_i32_145 c0_i32_146
  let c1_i32_147 : BitVec 32 := 1#32
  let v227 : BitVec 32 := Scalar.select v226 c1_i32_147 c4_i32_145
  let v228 : BitVec 32 := Scalar.remsi v225 v227
  let c0_i32_149 : BitVec 32 := 0#32
  let v230 : BitVec 1 := Scalar.cmpi .slt v228 c0_i32_149
  let c0_i32_150 : BitVec 32 := 0#32
  let v231 : BitVec 1 := Scalar.cmpi .slt v227 c0_i32_150
  let v232 : BitVec 1 := Scalar.xori v230 v231
  let c0_i32_148 : BitVec 32 := 0#32
  let v229 : BitVec 1 := Scalar.cmpi .ne v228 c0_i32_148
  let v233 : BitVec 1 := Scalar.andi v232 v229
  let v234 : BitVec 32 := Scalar.addi v228 v227
  let v235 : BitVec 32 := Scalar.select v233 v234 v228
  let c1_i32_159 : BitVec 32 := 1#32
  let v240 : BitVec 32 := Scalar.muli v235 c1_i32_159
  let v241 : BitVec 32 := Scalar.addi v239 v240
  v241.toNat
def k0_dev9 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_176 : BitVec 32 := 16#32
  let v260 : BitVec 32 := Scalar.muli v2 c16_i32_176
  let v261 : BitVec 32 := Scalar.addi c0_i32_177 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v262 : BitVec 32 := Scalar.muli v5 c4_i32_178
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_164 : BitVec 32 := 3#32
  let v249 : BitVec 32 := Scalar.addi v8 c3_i32_164
  let c4_i32_165 : BitVec 32 := 4#32
  let c0_i32_166 : BitVec 32 := 0#32
  let v250 : BitVec 1 := Scalar.cmpi .eq c4_i32_165 c0_i32_166
  let c1_i32_167 : BitVec 32 := 1#32
  let v251 : BitVec 32 := Scalar.select v250 c1_i32_167 c4_i32_165
  let v252 : BitVec 32 := Scalar.remsi v249 v251
  let c0_i32_169 : BitVec 32 := 0#32
  let v254 : BitVec 1 := Scalar.cmpi .slt v252 c0_i32_169
  let c0_i32_170 : BitVec 32 := 0#32
  let v255 : BitVec 1 := Scalar.cmpi .slt v251 c0_i32_170
  let v256 : BitVec 1 := Scalar.xori v254 v255
  let c0_i32_168 : BitVec 32 := 0#32
  let v253 : BitVec 1 := Scalar.cmpi .ne v252 c0_i32_168
  let v257 : BitVec 1 := Scalar.andi v256 v253
  let v258 : BitVec 32 := Scalar.addi v252 v251
  let v259 : BitVec 32 := Scalar.select v257 v258 v252
  let c1_i32_179 : BitVec 32 := 1#32
  let v264 : BitVec 32 := Scalar.muli v259 c1_i32_179
  let v265 : BitVec 32 := Scalar.addi v263 v264
  v265.toNat
def k0_dev10 (d0 : Dev nD) : Nat :=
  let c0_i32_211 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_210 : BitVec 32 := 16#32
  let v318 : BitVec 32 := Scalar.muli v2 c16_i32_210
  let v319 : BitVec 32 := Scalar.addi c0_i32_211 v318
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_212 : BitVec 32 := 4#32
  let v320 : BitVec 32 := Scalar.muli v5 c4_i32_212
  let v321 : BitVec 32 := Scalar.addi v319 v320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v307 : BitVec 32 := Scalar.addi v8 c1_i32_198
  let c4_i32_199 : BitVec 32 := 4#32
  let c0_i32_200 : BitVec 32 := 0#32
  let v308 : BitVec 1 := Scalar.cmpi .eq c4_i32_199 c0_i32_200
  let c1_i32_201 : BitVec 32 := 1#32
  let v309 : BitVec 32 := Scalar.select v308 c1_i32_201 c4_i32_199
  let v310 : BitVec 32 := Scalar.remsi v307 v309
  let c0_i32_203 : BitVec 32 := 0#32
  let v312 : BitVec 1 := Scalar.cmpi .slt v310 c0_i32_203
  let c0_i32_204 : BitVec 32 := 0#32
  let v313 : BitVec 1 := Scalar.cmpi .slt v309 c0_i32_204
  let v314 : BitVec 1 := Scalar.xori v312 v313
  let c0_i32_202 : BitVec 32 := 0#32
  let v311 : BitVec 1 := Scalar.cmpi .ne v310 c0_i32_202
  let v315 : BitVec 1 := Scalar.andi v314 v311
  let v316 : BitVec 32 := Scalar.addi v310 v309
  let v317 : BitVec 32 := Scalar.select v315 v316 v310
  let c1_i32_213 : BitVec 32 := 1#32
  let v322 : BitVec 32 := Scalar.muli v317 c1_i32_213
  let v323 : BitVec 32 := Scalar.addi v321 v322
  v323.toNat
def k0_dev11 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_229 : BitVec 32 := 16#32
  let v342 : BitVec 32 := Scalar.muli v2 c16_i32_229
  let v343 : BitVec 32 := Scalar.addi c0_i32_230 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v344 : BitVec 32 := Scalar.muli v5 c4_i32_231
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_217 : BitVec 32 := 2#32
  let v331 : BitVec 32 := Scalar.addi v8 c2_i32_217
  let c4_i32_218 : BitVec 32 := 4#32
  let c0_i32_219 : BitVec 32 := 0#32
  let v332 : BitVec 1 := Scalar.cmpi .eq c4_i32_218 c0_i32_219
  let c1_i32_220 : BitVec 32 := 1#32
  let v333 : BitVec 32 := Scalar.select v332 c1_i32_220 c4_i32_218
  let v334 : BitVec 32 := Scalar.remsi v331 v333
  let c0_i32_222 : BitVec 32 := 0#32
  let v336 : BitVec 1 := Scalar.cmpi .slt v334 c0_i32_222
  let c0_i32_223 : BitVec 32 := 0#32
  let v337 : BitVec 1 := Scalar.cmpi .slt v333 c0_i32_223
  let v338 : BitVec 1 := Scalar.xori v336 v337
  let c0_i32_221 : BitVec 32 := 0#32
  let v335 : BitVec 1 := Scalar.cmpi .ne v334 c0_i32_221
  let v339 : BitVec 1 := Scalar.andi v338 v335
  let v340 : BitVec 32 := Scalar.addi v334 v333
  let v341 : BitVec 32 := Scalar.select v339 v340 v334
  let c1_i32_232 : BitVec 32 := 1#32
  let v346 : BitVec 32 := Scalar.muli v341 c1_i32_232
  let v347 : BitVec 32 := Scalar.addi v345 v346
  v347.toNat
def k0_dev12 (d0 : Dev nD) : Nat :=
  let c0_i32_250 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_249 : BitVec 32 := 16#32
  let v366 : BitVec 32 := Scalar.muli v2 c16_i32_249
  let v367 : BitVec 32 := Scalar.addi c0_i32_250 v366
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_251 : BitVec 32 := 4#32
  let v368 : BitVec 32 := Scalar.muli v5 c4_i32_251
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_237 : BitVec 32 := 3#32
  let v355 : BitVec 32 := Scalar.addi v8 c3_i32_237
  let c4_i32_238 : BitVec 32 := 4#32
  let c0_i32_239 : BitVec 32 := 0#32
  let v356 : BitVec 1 := Scalar.cmpi .eq c4_i32_238 c0_i32_239
  let c1_i32_240 : BitVec 32 := 1#32
  let v357 : BitVec 32 := Scalar.select v356 c1_i32_240 c4_i32_238
  let v358 : BitVec 32 := Scalar.remsi v355 v357
  let c0_i32_242 : BitVec 32 := 0#32
  let v360 : BitVec 1 := Scalar.cmpi .slt v358 c0_i32_242
  let c0_i32_243 : BitVec 32 := 0#32
  let v361 : BitVec 1 := Scalar.cmpi .slt v357 c0_i32_243
  let v362 : BitVec 1 := Scalar.xori v360 v361
  let c0_i32_241 : BitVec 32 := 0#32
  let v359 : BitVec 1 := Scalar.cmpi .ne v358 c0_i32_241
  let v363 : BitVec 1 := Scalar.andi v362 v359
  let v364 : BitVec 32 := Scalar.addi v358 v357
  let v365 : BitVec 32 := Scalar.select v363 v364 v358
  let c1_i32_252 : BitVec 32 := 1#32
  let v370 : BitVec 32 := Scalar.muli v365 c1_i32_252
  let v371 : BitVec 32 := Scalar.addi v369 v370
  v371.toNat
def k0_dev13 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_283 : BitVec 32 := 16#32
  let v424 : BitVec 32 := Scalar.muli v2 c16_i32_283
  let v425 : BitVec 32 := Scalar.addi c0_i32_284 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_285 : BitVec 32 := 4#32
  let v426 : BitVec 32 := Scalar.muli v5 c4_i32_285
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v413 : BitVec 32 := Scalar.addi v8 c1_i32_271
  let c4_i32_272 : BitVec 32 := 4#32
  let c0_i32_273 : BitVec 32 := 0#32
  let v414 : BitVec 1 := Scalar.cmpi .eq c4_i32_272 c0_i32_273
  let c1_i32_274 : BitVec 32 := 1#32
  let v415 : BitVec 32 := Scalar.select v414 c1_i32_274 c4_i32_272
  let v416 : BitVec 32 := Scalar.remsi v413 v415
  let c0_i32_276 : BitVec 32 := 0#32
  let v418 : BitVec 1 := Scalar.cmpi .slt v416 c0_i32_276
  let c0_i32_277 : BitVec 32 := 0#32
  let v419 : BitVec 1 := Scalar.cmpi .slt v415 c0_i32_277
  let v420 : BitVec 1 := Scalar.xori v418 v419
  let c0_i32_275 : BitVec 32 := 0#32
  let v417 : BitVec 1 := Scalar.cmpi .ne v416 c0_i32_275
  let v421 : BitVec 1 := Scalar.andi v420 v417
  let v422 : BitVec 32 := Scalar.addi v416 v415
  let v423 : BitVec 32 := Scalar.select v421 v422 v416
  let c1_i32_286 : BitVec 32 := 1#32
  let v428 : BitVec 32 := Scalar.muli v423 c1_i32_286
  let v429 : BitVec 32 := Scalar.addi v427 v428
  v429.toNat
def k0_dev14 (d0 : Dev nD) : Nat :=
  let c0_i32_303 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_302 : BitVec 32 := 16#32
  let v448 : BitVec 32 := Scalar.muli v2 c16_i32_302
  let v449 : BitVec 32 := Scalar.addi c0_i32_303 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v450 : BitVec 32 := Scalar.muli v5 c4_i32_304
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_290 : BitVec 32 := 2#32
  let v437 : BitVec 32 := Scalar.addi v8 c2_i32_290
  let c4_i32_291 : BitVec 32 := 4#32
  let c0_i32_292 : BitVec 32 := 0#32
  let v438 : BitVec 1 := Scalar.cmpi .eq c4_i32_291 c0_i32_292
  let c1_i32_293 : BitVec 32 := 1#32
  let v439 : BitVec 32 := Scalar.select v438 c1_i32_293 c4_i32_291
  let v440 : BitVec 32 := Scalar.remsi v437 v439
  let c0_i32_295 : BitVec 32 := 0#32
  let v442 : BitVec 1 := Scalar.cmpi .slt v440 c0_i32_295
  let c0_i32_296 : BitVec 32 := 0#32
  let v443 : BitVec 1 := Scalar.cmpi .slt v439 c0_i32_296
  let v444 : BitVec 1 := Scalar.xori v442 v443
  let c0_i32_294 : BitVec 32 := 0#32
  let v441 : BitVec 1 := Scalar.cmpi .ne v440 c0_i32_294
  let v445 : BitVec 1 := Scalar.andi v444 v441
  let v446 : BitVec 32 := Scalar.addi v440 v439
  let v447 : BitVec 32 := Scalar.select v445 v446 v440
  let c1_i32_305 : BitVec 32 := 1#32
  let v452 : BitVec 32 := Scalar.muli v447 c1_i32_305
  let v453 : BitVec 32 := Scalar.addi v451 v452
  v453.toNat
def k0_dev15 (d0 : Dev nD) : Nat :=
  let c0_i32_323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_322 : BitVec 32 := 16#32
  let v472 : BitVec 32 := Scalar.muli v2 c16_i32_322
  let v473 : BitVec 32 := Scalar.addi c0_i32_323 v472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_324 : BitVec 32 := 4#32
  let v474 : BitVec 32 := Scalar.muli v5 c4_i32_324
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_310 : BitVec 32 := 3#32
  let v461 : BitVec 32 := Scalar.addi v8 c3_i32_310
  let c4_i32_311 : BitVec 32 := 4#32
  let c0_i32_312 : BitVec 32 := 0#32
  let v462 : BitVec 1 := Scalar.cmpi .eq c4_i32_311 c0_i32_312
  let c1_i32_313 : BitVec 32 := 1#32
  let v463 : BitVec 32 := Scalar.select v462 c1_i32_313 c4_i32_311
  let v464 : BitVec 32 := Scalar.remsi v461 v463
  let c0_i32_315 : BitVec 32 := 0#32
  let v466 : BitVec 1 := Scalar.cmpi .slt v464 c0_i32_315
  let c0_i32_316 : BitVec 32 := 0#32
  let v467 : BitVec 1 := Scalar.cmpi .slt v463 c0_i32_316
  let v468 : BitVec 1 := Scalar.xori v466 v467
  let c0_i32_314 : BitVec 32 := 0#32
  let v465 : BitVec 1 := Scalar.cmpi .ne v464 c0_i32_314
  let v469 : BitVec 1 := Scalar.andi v468 v465
  let v470 : BitVec 32 := Scalar.addi v464 v463
  let v471 : BitVec 32 := Scalar.select v469 v470 v464
  let c1_i32_325 : BitVec 32 := 1#32
  let v476 : BitVec 32 := Scalar.muli v471 c1_i32_325
  let v477 : BitVec 32 := Scalar.addi v475 v476
  v477.toNat
abbrev stage0_0 : Fin 1 → Memref sig .tc .vmem S64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x2048x8x64 : Shape := ⟨4, ![8, 2048, 8, 64]⟩
abbrev S8x8x1x2048 : Shape := ⟨4, ![8, 8, 1, 2048]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x2048x8x64, .bf16⟩
  | .hbm, ⟨2, _⟩ => ⟨S8x2048x8x64, .bf16⟩
  | .hbm, ⟨3, _⟩ => ⟨S8x1x8x64, .f32⟩
  | .hbm, ⟨4, _⟩ => ⟨S8x2048x8x64, .f32⟩
  | .hbm, ⟨5, _⟩ => ⟨S8x2048x8x64, .f32⟩
  | .hbm, ⟨6, _⟩ => ⟨S8x8x1x2048, .f32⟩
  | .hbm, ⟨7, _⟩ => ⟨S_, .f32⟩
  | .hbm, ⟨8, _⟩ => ⟨S8x8x1x2048, .f32⟩
  | .hbm, ⟨9, _⟩ => ⟨S8x8x1x2048, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x2048, .f32⟩
  | .hbm, ⟨14, _⟩ => ⟨S8x8x1x2048, .f32⟩
  | .hbm, ⟨15, _⟩ => ⟨S8x8x1x2048, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x2048, .f32⟩
  | .hbm, ⟨20, _⟩ => ⟨S8x8x1x2048, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.ICells.lean ====
/-
  The exchange inside the kernel: its cells, the contents each buffer holds, and the schedule of the rounds.

  Each device computes its partial result in four groups of sixteen rows, and sends every group to the three other
  devices of its line of four as soon as the group is stored. Slot `s` of the landing buffer takes what the device
  `s + 1` places behind sends, so a device writes slot `s` of the device `s + 1` places ahead.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Rounds.Family
public import Idealize.ShloMosaic.Lib.ShareLeaves
public import Idealize.ShloMosaic.Lib.Ring
public import Idealize.ShloMosaic.Lib.StableHlo
public import Idealize.ShloMosaic.Lib.Tactic
public import Idealize.ShloMosaic.Lib.ValueIdx

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

/-! ## The resource algebra: the pipeline library's copy and the exchange's, whose duties are counted by slot -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The line of four -/

/-- The device `s + 1` places ahead on the last axis of the mesh. -/
def pr (s : Fin 3) (c : Dev nD) : Dev nD :=
  ⟨c.val / 4 * 4 + (c.val + (s.val + 1)) % 4, by have h := c.isLt; have : nD = 32 := rfl; omega⟩

theorem pr_rev (s : Fin 3) (c : Dev nD) : pr s.rev (pr s c) = c := by
  apply Fin.ext; have h := c.isLt; have : nD = 32 := rfl; have := s.isLt
  simp only [pr, Fin.val_rev]; omega
theorem pr_rev' (s : Fin 3) (c : Dev nD) : pr s (pr s.rev c) = c := by
  have := pr_rev s.rev c; rwa [Fin.rev_rev] at this

/-- The line of four turned by `s + 1` places. -/
def turn (s : Fin 3) : Dev nD ≃ Dev nD := ⟨pr s, pr s.rev, pr_rev s, pr_rev' s⟩

/-- A slot and a group of rows: what one send writes. -/
abbrev P : Type := Fin 3 × Fin 4

/-! ## Semaphores and cells -/

abbrev barS : Sem sig := ⟨0, by decide⟩
abbrev sendS (p : P) : DmaSem sig := ⟨4 + (4 * p.1.val + p.2.val), by
  have := p.1.isLt; have := p.2.isLt; show 4 + (4 * p.1.val + p.2.val) < 28; omega⟩
abbrev recvS (p : P) : DmaSem sig := ⟨16 + (4 * p.1.val + p.2.val), by
  have := p.1.isLt; have := p.2.isLt; show 16 + (4 * p.1.val + p.2.val) < 28; omega⟩

abbrev barCell (c : Dev nD) : GSem nD τ sig := ((c : Thread nD τ), .reg barS)
abbrev sendCell (c : Dev nD) (p : P) : GSem nD τ sig := ((c : Thread nD τ), .dma (sendS p))
abbrev recvCell (c : Dev nD) (p : P) : GSem nD τ sig := ((c : Thread nD τ), .dma (recvS p))

/-! ## The buffers, whole and by pieces -/

abbrev locM : Memref sig .tc .vmem S64x66 .f32 := Memref.whole cc0_scratch0
abbrev commM : Memref sig .tc .vmem S3x64x66 .f32 := Memref.whole cc0_scratch1

theorem inb_rows (g : Fin 4) : ∀ a, (![16 * g.val, 0] : Fin 2 → ℕ) a + S16x66.size a ≤ S64x66.size a := by
  revert g; decide
theorem inb_slab (p : P) : ∀ a, (![p.1.val, 16 * p.2.val, 0] : Fin 3 → ℕ) a + S1x16x66.size a ≤ S3x64x66.size a := by
  revert p; decide

abbrev rowsR (g : Fin 4) : Rect S64x66 := Rect.unit (s := S64x66) ![16 * g.val, 0] S16x66.size (inb_rows g)
abbrev slabR (p : P) : Rect S3x64x66 := Rect.unit (s := S3x64x66) ![p.1.val, 16 * p.2.val, 0] S1x16x66.size (inb_slab p)

/-- Group `g` of the partial result; slot and group `p` of the landing buffer. -/
abbrev rowsM (g : Fin 4) : Memref sig .tc .vmem S16x66 .f32 := locM.slice (rowsR g) (fun _ => rfl)
abbrev slabM (p : P) : Memref sig .tc .vmem S16x66 .f32 :=
  (commM.slice (slabR p) (fun _ => rfl)).squeeze S16x66 squeezes_S1x16x66_S16x66

/-- What one send moves, in the semaphores' unit. -/
abbrev N : ℕ := (rowsM 0).view.dmaCredit
theorem N_pos : 0 < N := View.dmaCredit_pos _ (by decide)

/-! ## Contents -/

theorem inb_q (g : Fin 4) : ∀ a, (![16 * g.val, 0] : Fin 2 → ℕ) a + S16x64.size a ≤ S64x64.size a := by
  revert g; decide
theorem inb_kv (g : Fin 4) : ∀ a, (![16 * g.val, 0, 0] : Fin 3 → ℕ) a + S16x64x512.size a ≤ S64x64x512.size a := by
  revert g; decide

/-- What a device's three staged operands hold. -/
structure Ins (F : FTy → Type) where
  q : Vec F S64x64 .bf16
  k : Vec F S64x64x512 .bf16
  v : Vec F S64x64x512 .bf16

/-- Group `g`'s rows of the operands. -/
def qRows (x : Ins F) (g : Fin 4) : Vec F S16x64 .bf16 :=
  fun y => x.q ((Rect.unit (s := S64x64) ![16 * g.val, 0] S16x64.size (inb_q g)).emb y)
def kRows (x : Ins F) (g : Fin 4) : Vec F S16x64x512 .bf16 :=
  fun y => x.k ((Rect.unit (s := S64x64x512) ![16 * g.val, 0, 0] S16x64x512.size (inb_kv g)).emb y)
def vRows (x : Ins F) (g : Fin 4) : Vec F S16x64x512 .bf16 :=
  fun y => x.v ((Rect.unit (s := S64x64x512) ![16 * g.val, 0, 0] S16x64x512.size (inb_kv g)).emb y)

/-- The rows group `g` stores: weighted values, maximum and sum of sixteen rows. -/
def part (x : Ins F) (g : Fin 4) : FVec F S16x66 .f32 := k0_pay5 (qRows x g) (kRows x g) (vRows x g)

theorem pay_first (q : Vec F S16x64 .bf16) (k v : Vec F S16x64x512 .bf16) : k0_pay2 (k0_pay1 q k) v = k0_pay5 q k v := rfl
theorem pay_second (q : Vec F S16x64 .bf16) (k v : Vec F S16x64x512 .bf16) : k0_pay4 (k0_pay3 q) k v = k0_pay5 q k v := rfl
theorem pay_fourth (q : Vec F S16x64 .bf16) (k v : Vec F S16x64x512 .bf16) : k0_pay6 q k v = k0_pay5 q k v := rfl

theorem row_lt (i : Fin 64) : i.val / 16 < 4 := by have := i.isLt; omega
theorem row_mod (i : Fin 64) : i.val % 16 < 16 := Nat.mod_lt _ (by decide)

/-- The partial result whole. -/
def locF (x : Ins F) : Vec F S64x66 .f32 := fun i =>
  part x ⟨(i 0).val / 16, row_lt (i 0)⟩ (ix2 ⟨(i 0).val % 16, row_mod (i 0)⟩ (i 1))

variable (X : Dev nD → Ins F)

/-- The landing buffer once all has landed: slot `s` holds the partial result of the device `s + 1` places behind. -/
def commF (c : Dev nD) : Vec F S3x64x66 .f32 := fun i => locF (X (pr (Fin.rev (i 0)) c)) (ix2 (i 1) (i 2))

/-! ## Views: sets, readings, landings -/

/-- Contents that a view reads alike agree on the view's elements. -/
theorem agree_of_read {κ : Kind} {sp : Space} {s : Shape} {e : EltTy} {v : View sig κ sp s e} {f g : v.ty.Contents (Elt F)}
    (h : v.read (Elt F) f = v.read (Elt F) g) : ∀ i ∈ v.set, f i = g i := by
  intro i hi
  obtain ⟨y, -, rfl⟩ := Finset.mem_map.mp hi
  have hy := congrFun h y
  rw [View.read_apply, View.read_apply] at hy
  exact (cast_inj _).mp hy

theorem rows_set (g : Fin 4) : (rowsM g).view.set = (rowsR g).set := View.set_slice_whole _ _
theorem slab_set (p : P) : (slabM p).view.set = (slabR p).set :=
  (View.set_reshape (v := (commM.slice (slabR p) (fun _ => rfl)).view) _).trans (View.set_slice_whole _ _)

/-- A group's rows of the partial result are what the group stored. -/
theorem rows_read (x : Ins F) (g : Fin 4) : (rowsM g).view.read (Elt F) (locF x) = part x g := by
  funext y
  have h0 : (y 0).val < 16 := (y 0).isLt
  have hg := g.isLt
  show locF x ((rowsR g).emb y) = part x g y
  unfold locF
  have e0 : ((rowsR g).emb y 0).val = 16 * g.val + 1 * (y 0).val := rfl
  have eg : (⟨((rowsR g).emb y 0).val / 16, row_lt ((rowsR g).emb y 0)⟩ : Fin 4) = g := Fin.ext (by simp only [e0]; omega)
  rw [eg]
  congr 1
  funext a
  match a with
  | ⟨0, _⟩ => apply Fin.ext; show (16 * g.val + 1 * (y 0).val) % 16 = (y 0).val; omega
  | ⟨1, _⟩ => apply Fin.ext; show 0 + 1 * (y 1).val = (y 1).val; omega

/-- The slab of the landing buffer, by the rows of what was sent. -/
theorem slab_emb (p : P) (y : S16x66.Idx) :
    (slabM p).view.emb y = (ix3 p.1 ⟨16 * p.2.val + (y 0).val, by have := p.2.isLt; have h0 : (y 0).val < 16 := (y 0).isLt; omega⟩ (y 1) : S3x64x66.Idx) := by
  show (slabR p).emb (Shape.reshapeEquiv (s := S1x16x66) (s' := S16x66) squeezes_S1x16x66_S16x66.numel_eq y) = _
  rw [show Shape.reshapeEquiv (s := S1x16x66) (s' := S16x66) squeezes_S1x16x66_S16x66.numel_eq y = _ from
    Shape.reshapeEquiv_cons_one (d := ![16, 66]) squeezes_S1x16x66_S16x66.numel_eq y]
  funext a
  match a with
  | ⟨0, _⟩ => apply Fin.ext; show p.1.val + 1 * 0 = p.1.val; omega
  | ⟨1, _⟩ => apply Fin.ext; show 16 * p.2.val + 1 * (y 0).val = 16 * p.2.val + (y 0).val; omega
  | ⟨2, _⟩ => apply Fin.ext; show 0 + 1 * (y 1).val = (y 1).val; omega

/-- A slab of the landing buffer, read, is the group the sender stored. -/
theorem slab_read (c : Dev nD) (p : P) :
    (slabM p).view.read (Elt F) (commF X c) = part (X (pr p.1.rev c)) p.2 := by
  rw [← rows_read]
  funext y
  show commF X c ((slabM p).view.emb y) = locF (X (pr p.1.rev c)) ((rowsR p.2).emb y)
  rw [slab_emb]
  unfold commF
  show locF (X (pr p.1.rev c)) _ = _
  congr 1
  funext a
  match a with
  | ⟨0, _⟩ => apply Fin.ext; show 16 * p.2.val + (y 0).val = 16 * p.2.val + 1 * (y 0).val; omega
  | ⟨1, _⟩ => apply Fin.ext; show (y 1).val = 0 + 1 * (y 1).val; omega

/-- What a send leaves in the slab it lands in. -/
theorem landed (c : Dev nD) (p : P) (fd : (cc0_scratch1 : Ref sig .tc).ty.Contents (Elt F)) :
    ∀ i ∈ (slabM p).view.set,
      (slabM p).view.write (Elt F) fd ((rowsM p.2).view.read (Elt F) (locF (X c))) Finset.univ i = commF X (pr p.1 c) i :=
  agree_of_read (by rw [View.read_write_univ, slab_read, pr_rev, rows_read])

/-- What a group's store leaves in its rows. -/
theorem stored (x : Ins F) (g : Fin 4) (f : (cc0_scratch0 : Ref sig .tc).ty.Contents (Elt F)) :
    ∀ i ∈ (rowsM g).view.set, (rowsM g).view.write (Elt F) f (part x g) Finset.univ i = locF x i :=
  agree_of_read (by rw [View.read_write_univ, rows_read])

/-! ### The pieces cover their buffer and do not meet -/

theorem rows_disjoint (g g' : Fin 4) (h : g ≠ g') : Disjoint (rowsM g).view.set (rowsM g').view.set := by
  rw [rows_set, rows_set]
  exact Rect.unit_disjoint 0 (by
    show 16 * g.val + 16 ≤ 16 * g'.val ∨ 16 * g'.val + 16 ≤ 16 * g.val
    have : g.val ≠ g'.val := fun e => h (Fin.ext e)
    omega)

abbrev rowsI (g : Fin 4) : Finset (cc0_scratch0 : Ref sig .tc).ty.Idx := (rowsM g).view.set
abbrev slabI (p : P) : Finset (cc0_scratch1 : Ref sig .tc).ty.Idx := (slabM p).view.set

theorem rows_mem (i : S64x66.Idx) : ∃ g, i ∈ (rowsR g).set := by
  refine ⟨⟨(i 0).val / 16, row_lt (i 0)⟩, ?_⟩
  rw [Rect.mem_set_unit]
  have h0 : (i 0).val < 64 := (i 0).isLt
  have h1 : (i 1).val < 66 := (i 1).isLt
  intro a
  match a with
  | ⟨0, _⟩ => show 16 * ((i 0).val / 16) ≤ (i 0).val ∧ (i 0).val < 16 * ((i 0).val / 16) + 16; omega
  | ⟨1, _⟩ => show 0 ≤ (i 1).val ∧ (i 1).val < 0 + 66; omega

theorem rows_cover : Finset.univ.biUnion rowsI = Finset.univ := by
  ext i
  simp only [Finset.mem_biUnion, Finset.mem_univ, true_and, iff_true]
  obtain ⟨g, hg⟩ := rows_mem i
  exact ⟨g, by show i ∈ (rowsM g).view.set; rw [rows_set]; exact hg⟩

theorem slab_disjoint (p p' : P) (h : p ≠ p') : Disjoint (slabM p).view.set (slabM p').view.set := by
  rw [slab_set, slab_set]
  by_cases hs : p.1 = p'.1
  · exact Rect.unit_disjoint 1 (by
      show 16 * p.2.val + 16 ≤ 16 * p'.2.val ∨ 16 * p'.2.val + 16 ≤ 16 * p.2.val
      have : p.2.val ≠ p'.2.val := fun e => h (Prod.ext hs (Fin.ext e))
      omega)
  · exact Rect.unit_disjoint 0 (by
      show p.1.val + 1 ≤ p'.1.val ∨ p'.1.val + 1 ≤ p.1.val
      have : p.1.val ≠ p'.1.val := fun e => hs (Fin.ext e)
      omega)

theorem slab_mem (i : S3x64x66.Idx) : ∃ p, i ∈ (slabR p).set := by
  refine ⟨(i 0, ⟨(i 1).val / 16, row_lt (i 1)⟩), ?_⟩
  rw [Rect.mem_set_unit]
  have h1 : (i 1).val < 64 := (i 1).isLt
  have h2 : (i 2).val < 66 := (i 2).isLt
  intro a
  match a with
  | ⟨0, _⟩ => show (i 0).val ≤ (i 0).val ∧ (i 0).val < (i 0).val + 1; omega
  | ⟨1, _⟩ => show 16 * ((i 1).val / 16) ≤ (i 1).val ∧ (i 1).val < 16 * ((i 1).val / 16) + 16; omega
  | ⟨2, _⟩ => show 0 ≤ (i 2).val ∧ (i 2).val < 0 + 66; omega

theorem slab_cover : Finset.univ.biUnion slabI = Finset.univ := by
  ext i
  simp only [Finset.mem_biUnion, Finset.mem_univ, true_and, iff_true]
  obtain ⟨p, hp⟩ := slab_mem i
  exact ⟨p, by show i ∈ (slabM p).view.set; rw [slab_set]; exact hp⟩

end Cert.KernelIdealRun

end
-- ==== Proof.ISched.lean ====
/-
  The rounds of the exchange: who pays which cell, with what, and what each device owes at launch.
-/
module

public import proofs.«01_k».proof.Proof.ICells

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (X : Dev nD → Ins F)

/-! ## The pieces held -/

/-- The four shares a stored group is held at: one for each of its three sends, one kept. -/
abbrev lf (i : Fin 4) : PosShare TreeShare := ShareLeaves.leaf 2 fullShare (i : Fin (2 ^ 2))

abbrev rowsP (c : Dev nD) (g : Fin 4) (q : PosShare TreeShare) (f : Vec F S64x66 .f32) : sProp 𝕄 :=
  (rowsM g).view.loc (c : Thread nD τ) ↦[(rowsM g).view.set]{q} f
abbrev slabP (c : Dev nD) (p : P) (f : Vec F S3x64x66 .f32) : sProp 𝕄 :=
  (slabM p).view.loc (c : Thread nD τ) ↦[(slabM p).view.set]{fullShare} f

/-! ## Payloads -/

/-- Paid to device `c`'s barrier cell by the device `s + 1` places ahead: that device's slot `s`, and that its four
    receive cells of the slot stand at their round. -/
def barPay (c : Dev nD) (s : Fin 3) : sProp 𝕄 :=
  bigSep Finset.univ fun g : Fin 4 => iprop((∃ f, slabP (pr s c) (s, g) f) ∗ reached ER (recvCell (pr s c) (s, g)) 0)
/-- Paid to a send cell by the send itself: the share of the rows lent to it. -/
def sendPay (c : Dev nD) (p : P) : sProp 𝕄 := rowsP c p.2 (lf p.1.castSucc) (locF (X c))
/-- Paid to a receive cell: the slab, at what landed. -/
def recvPay (c : Dev nD) (p : P) : sProp 𝕄 := slabP c p (commF X c)

/-- What a semaphore is to the exchange. -/
inductive Kd where
  | bar | send (p : P) | recv (p : P) | other
  deriving DecidableEq

def pairOf (n : ℕ) (h : n < 12) : P := (⟨n / 4, by omega⟩, ⟨n % 4, Nat.mod_lt _ (by decide)⟩)

def kind : SemLoc sig → Kd
  | .reg s => if s.val = 0 then .bar else .other
  | .dma i => if h : 4 ≤ i.val ∧ i.val < 16 then .send (pairOf (i.val - 4) (by omega))
      else if h : 16 ≤ i.val ∧ i.val < 28 then .recv (pairOf (i.val - 16) (by omega)) else .other

theorem kind_bar : kind (.reg barS) = .bar := rfl
theorem kind_send (p : P) : kind (.dma (sendS p)) = .send p := by revert p; decide
theorem kind_recv (p : P) : kind (.dma (recvS p)) = .recv p := by revert p; decide

/-- One round: three duties on every barrier cell, one on every send and receive cell. -/
def Rd : Rounds.Schedule (GSem nD τ sig) (Fin 3) 𝕄 where
  duties g r := if r = 0 ∧ g.1.2 = .tc then
      (match kind g.2 with | .bar => Finset.univ | .send _ => {0} | .recv _ => {0} | .other => ∅)
    else ∅
  unitless _ := False
  amount g _ _ := match kind g.2 with | .bar => 1 | _ => N
  payload g _ d := match kind g.2 with
    | .bar => barPay g.1.1 d
    | .send p => sendPay X g.1.1 p
    | .recv p => recvPay X g.1.1 p
    | .other => iprop(emp)
  amount_pos g _ _ _ := by
    cases kind g.2 <;> first | exact Nat.one_pos | exact N_pos

instance payload_storable (g : GSem nD τ sig) (r : ℕ) (d : Fin 3) :
    BI.Storable (upEmb : UEmb _ 𝕄) ((Rd (F := F) X).payload g r d) := by
  show BI.Storable upEmb (match kind g.2 with
    | .bar => barPay g.1.1 d
    | .send p => sendPay X g.1.1 p
    | .recv p => recvPay X g.1.1 p
    | .other => iprop(emp))
  unfold barPay recvPay sendPay
  split <;> infer_instance

section Sched

variable (c : Dev nD) (p : P)

theorem duties_bar : (Rd (F := F) X).duties (barCell c) 0 = Finset.univ := by
  dsimp only [Rd]; rw [if_pos ⟨rfl, rfl⟩, kind_bar]
theorem duties_send : (Rd (F := F) X).duties (sendCell c p) 0 = {0} := by
  dsimp only [Rd]; rw [if_pos ⟨rfl, rfl⟩, kind_send]
theorem duties_recv : (Rd (F := F) X).duties (recvCell c p) 0 = {0} := by
  dsimp only [Rd]; rw [if_pos ⟨rfl, rfl⟩, kind_recv]
theorem duties_later (g : GSem nD τ sig) : ∀ r, 0 + 1 ≤ r → (Rd (F := F) X).duties g r = ∅ :=
  fun r hr => by dsimp only [Rd]; rw [if_neg (fun h => by omega)]

theorem amount_bar (d : Fin 3) : (Rd (F := F) X).amount (barCell c) 0 d = 1 := by dsimp only [Rd]; rw [kind_bar]
theorem amount_send (d : Fin 3) : (Rd (F := F) X).amount (sendCell c p) 0 d = N := by dsimp only [Rd]; rw [kind_send]
theorem amount_recv (d : Fin 3) : (Rd (F := F) X).amount (recvCell c p) 0 d = N := by dsimp only [Rd]; rw [kind_recv]

theorem expect_bar : (Rd (F := F) X).expect (barCell c) 0 = 3 := by
  unfold Schedule.expect Schedule.amountOf; rw [duties_bar, Fin.sum_univ_three, amount_bar, amount_bar, amount_bar]
theorem expect_send : (Rd (F := F) X).expect (sendCell c p) 0 = N := by
  unfold Schedule.expect Schedule.amountOf; rw [duties_send, Finset.sum_singleton, amount_send]
theorem expect_recv : (Rd (F := F) X).expect (recvCell c p) 0 = N := by
  unfold Schedule.expect Schedule.amountOf; rw [duties_recv, Finset.sum_singleton, amount_recv]

theorem payload_bar (d : Fin 3) : (Rd (F := F) X).payload (barCell c) 0 d = barPay c d := by dsimp only [Rd]; rw [kind_bar]
theorem payload_send (d : Fin 3) : (Rd (F := F) X).payload (sendCell c p) 0 d = sendPay X c p := by dsimp only [Rd]; rw [kind_send]
theorem payload_recv (d : Fin 3) : (Rd (F := F) X).payload (recvCell c p) 0 d = recvPay X c p := by dsimp only [Rd]; rw [kind_recv]

theorem rest_bar : bigSep ((Rd (F := F) X).duties (barCell c) 0 \ ∅) (fun d => (Rd (F := F) X).payload (barCell c) 0 d)
    = bigSep Finset.univ fun s : Fin 3 => barPay c s := by
  rw [Finset.sdiff_empty, duties_bar]; exact bigSep_congr fun d _ => payload_bar X c d
theorem rest_send : bigSep ((Rd (F := F) X).duties (sendCell c p) 0 \ ∅) (fun d => (Rd (F := F) X).payload (sendCell c p) 0 d)
    = sendPay X c p := by
  rw [Finset.sdiff_empty, duties_send, bigSep_singleton, payload_send]
theorem rest_recv : bigSep ((Rd (F := F) X).duties (recvCell c p) 0 \ ∅) (fun d => (Rd (F := F) X).payload (recvCell c p) 0 d)
    = recvPay X c p := by
  rw [Finset.sdiff_empty, duties_recv, bigSep_singleton, payload_recv]

end Sched

/-! ## What each core owes; the levels -/

/-- What a device still owes for the sends to come: each credits a receive cell of another device. -/
def owed (c : Dev nD) : List P → CellTallies nD τ sig Unit
  | [] => 0
  | p :: ps => owed c ps + tallyAt (recvCell (pr p.1 c) p) () N

/-- The sends in the order the kernel makes them: group by group, slot by slot. -/
abbrev order : List P :=
  [(0, 0), (1, 0), (2, 0), (0, 1), (1, 1), (2, 1), (0, 2), (1, 2), (2, 2), (0, 3), (1, 3), (2, 3)]

/-- At launch: the twelve sends' credits, and a unit to the barrier cell of each of the three others. -/
def O₀ (c : Dev nD) : CellTallies nD τ sig Unit :=
  ((owed c order + tallyAt (barCell (pr 2 c)) () 1) + tallyAt (barCell (pr 1 c)) () 1) + tallyAt (barCell (pr 0 c)) () 1

def L (g : GSem nD τ sig) : Finset Unit := if g.1.2 = .tc then {()} else ∅
/-- Barrier cells below receive cells, the rest at the bottom. -/
def lv (g : GSem nD τ sig) (_ : Unit) : ℕ := match kind g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [kind_bar]
theorem lv_recv (c : Dev nD) (p : P) : lv (recvCell c p) () = 2 := by dsimp only [lv]; rw [kind_recv]

/-- What is owed for sends is owed to receive cells. -/
theorem owed_pos (c : Dev nD) : ∀ (ps : List P) (g : GSem nD τ sig) (u : Unit), 0 < owed c ps g u → ∃ p, g = recvCell (pr p.1 c) p
  | [], g, u, h => absurd h (Nat.lt_irrefl 0)
  | p :: ps, g, u, h => by
    have h' : 0 < owed c ps g u + tallyAt (recvCell (pr p.1 c) p) () N g u := h
    by_cases h0 : 0 < owed c ps g u
    · exact owed_pos c ps g u h0
    · rw [tallyAt_apply] at h'
      by_cases he : g = recvCell (pr p.1 c) p ∧ u = ()
      · exact ⟨p, he.1⟩
      · rw [if_neg he] at h'; omega

theorem mayWait_bar (c : Dev nD) (ps : List P) :
    (levAts L lv : sProp 𝕄) ⊢ MayWait (c : Thread nD τ) (.reg barS) () (owed c ps) :=
  MayOwe.of_cut (L := L) (lev := lv) 1 (fun p hp => by rw [Finset.mem_singleton.mp hp, L_tc]; exact Finset.mem_singleton_self _)
    (fun g u hg => by
      obtain ⟨p, rfl⟩ := owed_pos c ps g u hg
      rw [L_tc]; exact Finset.mem_singleton_self _)
    (fun p hp => by rw [Finset.mem_singleton.mp hp]; exact le_of_eq (lv_bar c))
    (fun g u hg => by
      obtain ⟨p, rfl⟩ := owed_pos c ps g u hg
      rw [lv_recv]; decide)

end Cert.KernelIdealRun

end
-- ==== Proof.IStep.lean ====
/-
  The steps a device takes: one entailment for each kind of effect the kernel's body performs.
-/
module

public import proofs.«01_k».proof.Proof.ISched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-- The kernel's variants: none. -/
abbrev 𝒱₀ : Variants := Variants.none

/-! ## Lists of things held -/

section Lists
variable {I : Type} (Φ : I → sProp (MT nD τ sig Unit (Elt F) ℕ UU ℕ))

/-- One thing for each entry of a list, held together. -/
def sepL : List I → sProp 𝕄
  | [] => iprop(emp)
  | i :: l => iprop(Φ i ∗ sepL l)

omit [FloatOps F] in
theorem sepL_cons (i : I) (l : List I) : sepL Φ (i :: l) = iprop(Φ i ∗ sepL Φ l) := rfl
omit [FloatOps F] in
theorem sepL_nil : sepL Φ [] = iprop(emp) := rfl

omit [FloatOps F] in
/-- A list without repetition holds what the set of its entries holds. -/
theorem sepL_eq [DecidableEq I] : ∀ l : List I, l.Nodup → sepL Φ l = bigSep l.toFinset Φ
  | [], _ => rfl
  | i :: l, h => by
    rw [List.toFinset_cons, BI.bigSep_insert (by rw [List.mem_toFinset]; exact (List.nodup_cons.mp h).1), ← sepL_eq l (List.nodup_cons.mp h).2]
    rfl

omit [FloatOps F] in
theorem sepL_perm [DecidableEq I] (l l' : List I) (h : l.Nodup) (h' : l'.Nodup) (e : l.toFinset = l'.toFinset) :
    sepL Φ l = sepL Φ l' := by
  rw [sepL_eq Φ l h, sepL_eq Φ l' h', e]

omit [FloatOps F] in
theorem sepL_univ [Fintype I] [DecidableEq I] (l : List I) (h : l.Nodup) (e : l.toFinset = Finset.univ) :
    sepL Φ l = bigSep Finset.univ Φ := by
  rw [sepL_eq Φ l h, e]

end Lists

variable (X : Dev nD → Ins F) (K : GSem nD τ sig → ℕ)

/-! ## The cells -/

/-- The semaphores of the exchange other than the barrier's: the sends', then the receives'. -/
abbrev osem : Fin 2 × P → SemLoc sig := fun k => if k.1 = 0 then .dma (sendS k.2) else .dma (recvS k.2)

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def scEmb : Dev nD × (Fin 2 × P) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem send_mem (c : Dev nD) (p : P) : sendCell c p ∈ (barCells ∪ scCells : Finset (GSem nD τ sig)) :=
  Finset.mem_union_right _ (Finset.mem_map_of_mem scEmb (Finset.mem_univ (c, ((0 : Fin 2), p))))
theorem recv_mem (c : Dev nD) (p : P) : recvCell c p ∈ (barCells ∪ scCells : Finset (GSem nD τ sig)) :=
  Finset.mem_union_right _ (Finset.mem_map_of_mem scEmb (Finset.mem_univ (c, ((1 : Fin 2), p))))

/-- Every cell's invariant. -/
def invs : sProp 𝕄 :=
  iprop(∃ S : Finset (GSem nD τ sig), ⌜(∀ c, barCell c ∈ S) ∧ (∀ c p, sendCell c p ∈ S) ∧ ∀ c p, recvCell c p ∈ S⌝
    ∗ bigSep S fun g => cellInv ER (Rd X) (K g) g)

instance invs_persistent : BI.Persistent (invs X K) := by unfold invs; infer_instance

theorem invs_intro : bigSep (barCells ∪ scCells) (fun g => (cellInv ER (Rd X) (K g) g : sProp 𝕄)) ⊢ invs X K := by
  unfold invs
  iintro H
  iexists (barCells ∪ scCells)
  isplitr
  · ipureintro; exact ⟨bar_mem, send_mem, recv_mem⟩
  iexact H

theorem inv_bar (c : Dev nD) : invs X K ⊢ cellInv ER (Rd X) (K (barCell c)) (barCell c) := by
  unfold invs
  iintro ⟨%S, %h, H⟩
  iapply (show bigSep S (fun g => (cellInv ER (Rd X) (K g) g : sProp 𝕄)) ⊢ cellInv ER (Rd X) (K (barCell c)) (barCell c) from bigSep_elim (h.1 c)); iexact H
theorem inv_send (c : Dev nD) (p : P) : invs X K ⊢ cellInv ER (Rd X) (K (sendCell c p)) (sendCell c p) := by
  unfold invs
  iintro ⟨%S, %h, H⟩
  iapply (show bigSep S (fun g => (cellInv ER (Rd X) (K g) g : sProp 𝕄)) ⊢ cellInv ER (Rd X) (K (sendCell c p)) (sendCell c p) from bigSep_elim (h.2.1 c p)); iexact H
theorem inv_recv (c : Dev nD) (p : P) : invs X K ⊢ cellInv ER (Rd X) (K (recvCell c p)) (recvCell c p) := by
  unfold invs
  iintro ⟨%S, %h, H⟩
  iapply (show bigSep S (fun g => (cellInv ER (Rd X) (K g) g : sProp 𝕄)) ⊢ cellInv ER (Rd X) (K (recvCell c p)) (recvCell c p) from bigSep_elim (h.2.2 c p)); iexact H

/-! ## What a device holds between two steps -/

/-- For a send still to make: the tokens of the two duties it pays, where both cells stand, the slab it lands in. -/
def sendRes (c : Dev nD) (p : P) : sProp 𝕄 :=
  iprop(dutyTok ER (sendCell c p) 0 0 ∗ dutyTok ER (recvCell (pr p.1 c) p) 0 0 ∗ reached ER (sendCell c p) 0
    ∗ reached ER (recvCell (pr p.1 c) p) 0 ∗ (∃ f, slabP (pr p.1 c) p f) ∗ atPos ER (sendCell c p) 0 ∅ 0)
/-- For a send made and not waited for: its credit and where the cell stands. -/
def sendCred (c : Dev nD) (p : P) : sProp 𝕄 :=
  iprop(cred (tallyAt (sendCell c p) () N) ∗ atPos ER (sendCell c p) 0 ∅ 0)
/-- For a send waited for: the rows lent to it. -/
def sendGot (c : Dev nD) (p : P) : sProp 𝕄 :=
  iprop(sendPay X c p ∗ atPos ER (sendCell c p) (0 + 1) ∅ 0)
/-- For a landing not waited for, and for one waited for. -/
def recvRes (c : Dev nD) (p : P) : sProp 𝕄 :=
  iprop(cred (tallyAt (recvCell c p) () N) ∗ atPos ER (recvCell c p) 0 ∅ 0)
def recvGot (c : Dev nD) (p : P) : sProp 𝕄 :=
  iprop(recvPay X c p ∗ atPos ER (recvCell c p) (0 + 1) ∅ 0)
/-- The share kept of a stored group; a group not stored. -/
def keep (c : Dev nD) (g : Fin 4) : sProp 𝕄 := rowsP c g (lf 3) (locF (X c))
def locAny (c : Dev nD) (g : Fin 4) : sProp 𝕄 := iprop(∃ f, rowsP c g fullShare f)

abbrev qM : Memref sig .tc .vmem S64x64 .bf16 := Memref.whole cc0_stg0_0
abbrev kM : Memref sig .tc .vmem S64x64x512 .bf16 := Memref.whole cc0_stg1_0
abbrev vM : Memref sig .tc .vmem S64x64x512 .bf16 := Memref.whole cc0_stg2_0
abbrev oM : Memref sig .tc .vmem S64x64 .f32 := Memref.whole cc0_stg3_0

/-- The staged operands. -/
def insP (c : Dev nD) : sProp 𝕄 :=
  iprop(((c : Thread nD τ).loc cc0_stg0_0 ↦{fullShare} (X c).q) ∗ ((c : Thread nD τ).loc cc0_stg1_0 ↦{fullShare} (X c).k)
    ∗ ((c : Thread nD τ).loc cc0_stg2_0 ↦{fullShare} (X c).v))

/-- Between two steps: `O` what is owed and `A` what the phase holds besides; `todo` the sends to make, `pend` those of them
    whose rows are stored, `made` those made, `sgot` those waited for; `kept` the groups stored, `rest` the others; `due` the
    landings to wait for, `got` the others. -/
def St (c : Dev nD) (O : CellTallies nD τ sig Unit) (A : sProp (MT nD τ sig Unit (Elt F) ℕ UU ℕ))
    (todo pend made sgot : List P) (kept rest : List (Fin 4)) (due got : List P) : sProp 𝕄 :=
  iprop(invs X K ∗ (∃ W, owes (c : Thread nD τ) O W) ∗ A ∗ sepL (sendRes c) todo ∗ sepL (sendPay X c) pend
    ∗ sepL (sendCred c) made ∗ sepL (sendGot X c) sgot ∗ sepL (keep X c) kept ∗ sepL (locAny c) rest
    ∗ sepL (recvRes c) due ∗ sepL (recvGot X c) got ∗ insP X c)

/-! ## The steps -/

section Steps
variable (c : Dev nD) {α : Type} {Q : α → sProp (MT nD τ sig Unit (Elt F) ℕ UU ℕ)}
variable (O : CellTallies nD τ sig Unit) (A : sProp (MT nD τ sig Unit (Elt F) ℕ UU ℕ))
variable (todo pend made sgot : List P) (kept rest : List (Fin 4)) (due got : List P)

abbrev runs (c : Dev nD) {α : Type} (e : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ e Q

omit [FloatOps F] in
theorem credit_slab (p : P) : (slabM p).view.dmaCredit = N := rfl

/-- A send's rule, addressed to a device that is the one its slot names. -/
theorem send_rule (p : P) (n : Dev nD) (hn : n = pr p.1 c)
    {hsc : (slabM p : Memref sig (Dev.tc n : Thread nD τ).2.kind .vmem S16x66 .f32).view.ref.isScScratch = false}
    {hsrc : (rowsM p.2 : Memref sig .tc .vmem S16x66 .f32).view.WordExact}
    {hdst : (slabM p : Memref sig .tc .vmem S16x66 .f32).view.WordExact}
    {hsem : DmaTarget.Typed .vmem (.dma (recvS p)) (.remote (Dev.tc n : Thread nD τ) (slabM p : Memref sig .tc .vmem S16x66 .f32) (.dma (sendS p)) hsc)}
    {k : PUnit → Prog (TpuEff nD τ sig (Elt F) Λ₀ .tc) α} (fd : Vec F S3x64x66 .f32) (W : Waits sig Unit) :
    iprop(cellInv ER (Rd X) (K (sendCell c p)) (sendCell c p) ∗ cellInv ER (Rd X) (K (recvCell (pr p.1 c) p)) (recvCell (pr p.1 c) p)
        ∗ rowsP c p.2 (lf p.1.castSucc) (locF (X c)) ∗ slabP (pr p.1 c) p fd
        ∗ owes (c : Thread nD τ) (owed c (p :: todo)) W
        ∗ dutyTok ER (sendCell c p) 0 0 ∗ reached ER (sendCell c p) 0
        ∗ dutyTok ER (recvCell (pr p.1 c) p) 0 0 ∗ reached ER (recvCell (pr p.1 c) p) 0)
      ⊢ iprop(((cred (tallyAt (sendCell c p) () N) ∗ owes (c : Thread nD τ) (owed c todo) W) -∗ runs c (k ⟨⟩) Q)
          -∗ runs c (.op (.enqueueDma (rowsM p.2) (.remote (Dev.tc n : Thread nD τ) (slabM p) (.dma (sendS p)) hsc) (.dma (recvS p)) hsrc hdst hsem) k) Q) := by
  subst hn
  have h1 : (0 : Fin 3) ∈ (Rd (F := F) X).duties (sendCell c p) 0 := by rw [duties_send]; exact Finset.mem_singleton_self _
  have h2 : (0 : Fin 3) ∈ (Rd (F := F) X).duties (recvCell (pr p.1 c) p) 0 := by rw [duties_recv]; exact Finset.mem_singleton_self _
  have h3 : (rowsP c p.2 (lf p.1.castSucc) (locF (X c)) : sProp 𝕄) ⊢ (Rd (F := F) X).payload (sendCell c p) 0 0 := by
    rw [payload_send]; exact BI.Entails.refl _
  have h4 : (slabP (pr p.1 c) p ((slabM p).view.write (Elt F) fd ((rowsM p.2).view.read (Elt F) (locF (X c))) Finset.univ) : sProp 𝕄)
      ⊢ (Rd (F := F) X).payload (recvCell (pr p.1 c) p) 0 0 := by
    rw [payload_recv]; unfold recvPay
    exact Entails.of_eq (pointsTo_congr (landed X c p fd))
  exact Rounds.wp_send_pointsTo 𝒱₀ ER (Rd X) (c : Thread nD τ) none (c' := (pr p.1 c : Thread nD τ)) (src := rowsM p.2) (dst := slabM p)
    (sS := .dma (sendS p)) (sem := .dma (recvS p)) (κ₁ := K (sendCell c p)) (κ₂ := K (recvCell (pr p.1 c) p))
    (r₁ := 0) (r₂ := 0) (d₁ := 0) (d₂ := 0) (q := lf p.1.castSucc) (fs := locF (X c)) (fd := fd)
    h1 h2 () () N (credit_slab p) (amount_send X c p 0) (amount_recv X (pr p.1 c) p 0) (owed c todo) rfl (W := W) h3 h4

/-! ### One entry taken out, and what puts the state back -/

theorem focus_send (p : P) :
    St X K c O A (p :: todo) (p :: pend) made sgot kept rest due got
      ⊢ iprop(invs X K ∗ (∃ W, owes (c : Thread nD τ) O W) ∗ sendRes c p ∗ sendPay X c p
        ∗ (∀ O', (∃ W, owes (c : Thread nD τ) O' W) -∗ sendCred c p -∗ St X K c O' A todo pend (p :: made) sgot kept rest due got)) := by
  unfold St
  rw [sepL_cons, sepL_cons, sepL_cons]
  iintro ⟨#HI, HO, HA, ⟨Hr, Htodo⟩, ⟨Hrow, Hpend⟩, Hmade, Hrest⟩
  isplitr; · iexact HI
  isplitl [HO]; · iexact HO
  isplitl [Hr]; · iexact Hr
  isplitl [Hrow]; · iexact Hrow
  iintro %O' HO Hc
  isplitr; · iexact HI
  isplitl [HO]; · iexact HO
  isplitl [HA]; · iexact HA
  isplitl [Htodo]; · iexact Htodo
  isplitl [Hpend]; · iexact Hpend
  isplitl [Hc Hmade]; · isplitl [Hc] <;> iassumption
  iexact Hrest

theorem focus_recv (p : P) :
    St X K c O A todo pend made sgot kept rest (p :: due) got
      ⊢ iprop(invs X K ∗ (∃ W, owes (c : Thread nD τ) O W) ∗ recvRes c p
        ∗ ((∃ W, owes (c : Thread nD τ) O W) -∗ recvGot X c p -∗ St X K c O A todo pend made sgot kept rest due (p :: got))) := by
  unfold St
  rw [sepL_cons, sepL_cons]
  iintro ⟨#HI, HO, HA, Htodo, Hpend, Hmade, Hsgot, Hkept, Hrest, ⟨Hr, Hdue⟩, Hgot, Hins⟩
  isplitr; · iexact HI
  isplitl [HO]; · iexact HO
  isplitl [Hr]; · iexact Hr
  iintro HO Hp
  isplitr; · iexact HI
  isplitl [HO]; · iexact HO
  isplitl [HA]; · iexact HA
  isplitl [Htodo]; · iexact Htodo
  isplitl [Hpend]; · iexact Hpend
  isplitl [Hmade]; · iexact Hmade
  isplitl [Hsgot]; · iexact Hsgot
  isplitl [Hkept]; · iexact Hkept
  isplitl [Hrest]; · iexact Hrest
  isplitl [Hdue]; · iexact Hdue
  isplitr [Hins]; · isplitl [Hp] <;> iassumption
  iexact Hins

theorem focus_sent (p : P) :
    St X K c O A todo pend (p :: made) sgot kept rest due got
      ⊢ iprop(invs X K ∗ (∃ W, owes (c : Thread nD τ) O W) ∗ sendCred c p
        ∗ ((∃ W, owes (c : Thread nD τ) O W) -∗ sendGot X c p -∗ St X K c O A todo pend made (p :: sgot) kept rest due got)) := by
  unfold St
  rw [sepL_cons, sepL_cons]
  iintro ⟨#HI, HO, HA, Htodo, Hpend, ⟨Hr, Hmade⟩, Hsgot, Hrest⟩
  isplitr; · iexact HI
  isplitl [HO]; · iexact HO
  isplitl [Hr]; · iexact Hr
  iintro HO Hp
  isplitr; · iexact HI
  isplitl [HO]; · iexact HO
  isplitl [HA]; · iexact HA
  isplitl [Htodo]; · iexact Htodo
  isplitl [Hpend]; · iexact Hpend
  isplitl [Hmade]; · iexact Hmade
  isplitr [Hrest]; · isplitl [Hp] <;> iassumption
  iexact Hrest

omit [FloatOps F] in
theorem four_leaves {ℓ : Loc nD τ sig} (I : Finset (Idx ℓ)) (f : Buf (Elt F) ℓ) :
    (ℓ ↦[I]{fullShare} f : sProp 𝕄) = iprop((ℓ ↦[I]{lf 0} f) ∗ (ℓ ↦[I]{lf 1} f) ∗ (ℓ ↦[I]{lf 2} f) ∗ (ℓ ↦[I]{lf 3} f)) := by
  rw [ShareLeaves.pointsTo_leaves I f 2 fullShare]
  exact bigSep_univ_eq_bigSepL (I := Fin (2 ^ 2)) [0, 1, 2, 3] (by decide) (by decide) _

omit [FloatOps F] in
/-- A group held whole is held at its four shares. -/
theorem rows_leaves (g : Fin 4) (f : Vec F S64x66 .f32) :
    (rowsP c g fullShare f : sProp 𝕄) = iprop(rowsP c g (lf 0) f ∗ rowsP c g (lf 1) f ∗ rowsP c g (lf 2) f ∗ rowsP c g (lf 3) f) :=
  four_leaves (ℓ := (rowsM g).view.loc (c : Thread nD τ)) (rowsM g).view.set f

/-- A group not stored, and what its store leaves: three shares for the sends, one kept. -/
theorem focus_store (g : Fin 4) :
    St X K c O A todo pend made sgot kept (g :: rest) due got
      ⊢ iprop((∃ f, rowsP c g fullShare f)
        ∗ (rowsP c g fullShare (locF (X c)) -∗ St X K c O A todo ((0, g) :: (1, g) :: (2, g) :: pend) made sgot (g :: kept) rest due got)) := by
  unfold St
  rw [sepL_cons, sepL_cons, sepL_cons, sepL_cons, sepL_cons, rows_leaves]
  iintro ⟨HI, HO, HA, Htodo, Hpend, Hmade, Hsgot, Hkept, ⟨Hr, Hrest⟩, Hdue⟩
  unfold locAny
  isplitl [Hr]; · iexact Hr
  iintro ⟨H0, H1, H2, H3⟩
  isplitl [HI]; · iexact HI
  isplitl [HO]; · iexact HO
  isplitl [HA]; · iexact HA
  isplitl [Htodo]; · iexact Htodo
  isplitl [H0 H1 H2 Hpend]
  · isplitl [H0]; · unfold sendPay; iexact H0
    isplitl [H1]; · unfold sendPay; iexact H1
    isplitl [H2]; · unfold sendPay; iexact H2
    iexact Hpend
  isplitl [Hmade]; · iexact Hmade
  isplitl [Hsgot]; · iexact Hsgot
  isplitl [H3 Hkept]
  · isplitr [Hkept]
    · unfold keep; iexact H3
    · iexact Hkept
  isplitl [Hrest]; · iexact Hrest
  iexact Hdue

/-- A group not stored, looked at. -/
theorem focus_rows (g : Fin 4) :
    St X K c O A todo pend made sgot kept (g :: rest) due got
      ⊢ iprop(∃ f, rowsP c g fullShare f ∗ (rowsP c g fullShare f -∗ St X K c O A todo pend made sgot kept (g :: rest) due got)) := by
  unfold St
  rw [sepL_cons]
  iintro ⟨HI, HO, HA, Htodo, Hpend, Hmade, Hsgot, Hkept, ⟨Hr, Hrest⟩, Hdue⟩
  unfold locAny
  icases Hr with ⟨%f, Hr⟩
  iexists f
  isplitl [Hr]; · iexact Hr
  iintro Hr
  isplitl [HI]; · iexact HI
  isplitl [HO]; · iexact HO
  isplitl [HA]; · iexact HA
  isplitl [Htodo]; · iexact Htodo
  isplitl [Hpend]; · iexact Hpend
  isplitl [Hmade]; · iexact Hmade
  isplitl [Hsgot]; · iexact Hsgot
  isplitl [Hkept]; · iexact Hkept
  isplitl [Hr Hrest]
  · isplitl [Hr]; · iexists f; iexact Hr
    iexact Hrest
  iexact Hdue

/-- The staged operands, looked at. -/
theorem focus_ins :
    St X K c O A todo pend made sgot kept rest due got
      ⊢ iprop(insP X c ∗ (insP X c -∗ St X K c O A todo pend made sgot kept rest due got)) := by
  unfold St
  iintro ⟨HI, HO, HA, Htodo, Hpend, Hmade, Hsgot, Hkept, Hrest, Hdue, Hgot, Hins⟩
  isplitl [Hins]; · iexact Hins
  iintro Hins
  isplitl [HI]; · iexact HI
  isplitl [HO]; · iexact HO
  isplitl [HA]; · iexact HA
  isplitl [Htodo]; · iexact Htodo
  isplitl [Hpend]; · iexact Hpend
  isplitl [Hmade]; · iexact Hmade
  isplitl [Hsgot]; · iexact Hsgot
  isplitl [Hkept]; · iexact Hkept
  isplitl [Hrest]; · iexact Hrest
  isplitl [Hdue]; · iexact Hdue
  isplitl [Hgot]; · iexact Hgot
  iexact Hins

/-! ### One effect each -/

/-- A send. -/
theorem step_send (p : P) (n : Dev nD) (hn : n = pr p.1 c)
    {hsc : (slabM p : Memref sig (Dev.tc n : Thread nD τ).2.kind .vmem S16x66 .f32).view.ref.isScScratch = false}
    {hsrc : (rowsM p.2 : Memref sig .tc .vmem S16x66 .f32).view.WordExact}
    {hdst : (slabM p : Memref sig .tc .vmem S16x66 .f32).view.WordExact}
    {hsem : DmaTarget.Typed .vmem (.dma (recvS p)) (.remote (Dev.tc n : Thread nD τ) (slabM p : Memref sig .tc .vmem S16x66 .f32) (.dma (sendS p)) hsc)}
    {k : PUnit → Prog (TpuEff nD τ sig (Elt F) Λ₀ .tc) α} :
    St X K c (owed c (p :: todo)) A (p :: todo) (p :: pend) made sgot kept rest due got
      ⊢ iprop((St X K c (owed c todo) A todo pend (p :: made) sgot kept rest due got -∗ runs c (k ⟨⟩) Q)
          -∗ runs c (.op (.enqueueDma (rowsM p.2) (.remote (Dev.tc n : Thread nD τ) (slabM p) (.dma (sendS p)) hsc) (.dma (recvS p)) hsrc hdst hsem) k) Q) := by
  refine (focus_send X K c _ A todo pend made sgot kept rest due got p).trans ?_
  iintro ⟨#HI, ⟨%W, HO⟩, Hr, Hrow, Hback⟩ Hk
  unfold sendRes
  icases Hr with ⟨HtS, HtR, #HrS, #HrR, ⟨%fd, Hs⟩, Hat⟩
  iapply (send_rule X K c todo p n hn fd W) $$ [HtS HtR Hs Hrow HO]
  · isplitr; · iapply (inv_send X K c p); iexact HI
    isplitr; · iapply (inv_recv X K (pr p.1 c) p); iexact HI
    isplitl [Hrow]; · unfold sendPay; iexact Hrow
    isplitl [Hs]; · iexact Hs
    isplitl [HO]; · iexact HO
    isplitl [HtS]; · iexact HtS
    isplitr; · iexact HrS
    isplitl [HtR]; · iexact HtR
    iexact HrR
  iintro ⟨Hc, HO⟩
  iapply Hk
  iapply Hback $$ [HO]
  · iexists W; iexact HO
  unfold sendCred; isplitl [Hc] <;> iassumption

/-- The wait for a landing, owing nothing: the slab comes, at what landed. -/
theorem step_recv (p : P)
    {h1 : (rowsM p.2 : Memref sig .tc .vmem S16x66 .f32).view.WordExact}
    {h2 : (slabM p : Memref sig .tc .vmem S16x66 .f32).view.WordExact}
    {k : PUnit → Prog (TpuEff nD τ sig (Elt F) Λ₀ .tc) α} :
    St X K c 0 A todo pend made sgot kept rest (p :: due) got
      ⊢ iprop((St X K c 0 A todo pend made sgot kept rest due (p :: got) -∗ runs c (k ⟨⟩) Q)
          -∗ runs c (.op (.waitDma2 (recvS p) (rowsM p.2) (slabM p) h1 h2) k) Q) := by
  refine (focus_recv X K c 0 A todo pend made sgot kept rest due got p).trans ?_
  iintro ⟨#HI, ⟨%W, HO⟩, Hr, Hback⟩ Hk
  unfold recvRes
  icases Hr with ⟨Hc, Hat⟩
  iapply (Rounds.wp_wait_rest_token 𝒱₀ ER (Rd X) (c : Thread nD τ) none (κ := K (recvCell c p))
      (wpE_waitDma2_eq (src := rowsM p.2) (dst := slabM p) 𝒱₀ (c : Thread nD τ) none Set.univ) (Set.mem_univ _) () (O := 0) (W := W) (R := 0) (m := 0) (T := ∅)
      (by rw [Nat.zero_add, expect_recv])) $$ [Hc HO Hat]
  · isplitr; · iapply (inv_recv X K c p); iexact HI
    isplitl [Hc]; · iexact Hc
    isplitl [HO]; · iexact HO
    isplitr; · rw [MayWait_zero]; iempintro
    iexact Hat
  iintro ⟨HO, Hat, -, Hpay⟩
  ihave Hp := (Entails.of_eq (rest_recv X c p)) $$ Hpay
  iapply Hk
  iapply Hback $$ [HO]
  · iexists _; iexact HO
  unfold recvGot; isplitl [Hp] <;> iassumption

/-- The wait for a send, owing nothing: the rows lent to it come back. -/
theorem step_sent (p : P)
    {h1 : (slabM p : Memref sig .tc .vmem S16x66 .f32).view.WordExact}
    {h2 : (rowsM p.2 : Memref sig .tc .vmem S16x66 .f32).view.WordExact}
    {k : PUnit → Prog (TpuEff nD τ sig (Elt F) Λ₀ .tc) α} :
    St X K c 0 A todo pend (p :: made) sgot kept rest due got
      ⊢ iprop((St X K c 0 A todo pend made (p :: sgot) kept rest due got -∗ runs c (k ⟨⟩) Q)
          -∗ runs c (.op (.waitDma2 (sendS p) (slabM p) (rowsM p.2) h1 h2) k) Q) := by
  refine (focus_sent X K c 0 A todo pend made sgot kept rest due got p).trans ?_
  iintro ⟨#HI, ⟨%W, HO⟩, Hr, Hback⟩ Hk
  unfold sendCred
  icases Hr with ⟨Hc, Hat⟩
  iapply (Rounds.wp_wait_rest_token 𝒱₀ ER (Rd X) (c : Thread nD τ) none (κ := K (sendCell c p))
      (wpE_waitDma2_eq (src := slabM p) (dst := rowsM p.2) 𝒱₀ (c : Thread nD τ) none Set.univ) (Set.mem_univ _) () (O := 0) (W := W) (R := 0) (m := 0) (T := ∅)
      (by rw [Nat.zero_add, expect_send])) $$ [Hc HO Hat]
  · isplitr; · iapply (inv_send X K c p); iexact HI
    isplitl [Hc]; · iexact Hc
    isplitl [HO]; · iexact HO
    isplitr; · rw [MayWait_zero]; iempintro
    iexact Hat
  iintro ⟨HO, Hat, -, Hpay⟩
  ihave Hp := (Entails.of_eq (rest_send X c p)) $$ Hpay
  iapply Hk
  iapply Hback $$ [HO]
  · iexists _; iexact HO
  unfold sendGot; isplitl [Hp] <;> iassumption

/-- The store of a group. -/
theorem step_store (g : Fin 4) (w : Vec F S16x66 .f32) (hw : w = part (X c) g)
    {hx : (locM.access (rowsR g)).Stores Finset.univ} {hm : (Finset.univ : Finset (rowsR g).shape.Idx) = Finset.univ ∨ ∀ a, (rowsR g).stride a = 1}
    {k : PUnit → Prog (TpuEff nD τ sig (Elt F) Λ₀ .tc) α} :
    St X K c O A todo pend made sgot kept (g :: rest) due got
      ⊢ iprop((St X K c O A todo ((0, g) :: (1, g) :: (2, g) :: pend) made sgot (g :: kept) rest due got -∗ runs c (k ⟨⟩) Q)
          -∗ runs c (.op (.store locM (rowsR g) w Finset.univ hx hm) k) Q) := by
  subst hw
  refine (focus_store X K c O A todo pend made sgot kept rest due got g).trans ?_
  iintro ⟨⟨%f, Hr⟩, Hback⟩ Hk
  iapply (wp_store (defs := defs₀ (F := F)) 𝒱₀ (c : Thread nD τ) none Set.univ (m := locM) (r := rowsR g) (S := (rowsM g).view.set) (f := f)
    (w := part (X c) g) (Mk := Finset.univ) (hx := hx) (hm := hm) (k := k) (Finset.Subset.refl _)) $$ Hr
  iintro Hr
  iapply Hk
  iapply Hback
  iapply (Entails.of_eq (pointsTo_congr (stored (X c) g f))) $$ Hr

/-- A load of a group before it is stored; nothing reads what it gives. -/
theorem step_peek (g : Fin 4) {hl : locM.view.LoadsAt (rowsR g).toLoadRect}
    {k : Vec F S16x66 .f32 → Prog (TpuEff nD τ sig (Elt F) Λ₀ .tc) α} :
    St X K c O A todo pend made sgot kept (g :: rest) due got
      ⊢ iprop((∀ w, St X K c O A todo pend made sgot kept (g :: rest) due got -∗ runs c (k w) Q)
          -∗ runs c (.op (.load locM (rowsR g).toLoadRect hl) k) Q) := by
  refine (focus_rows X K c O A todo pend made sgot kept rest due got g).trans ?_
  iintro ⟨%f, Hr, Hback⟩ Hk
  iapply (wp_load_rect (defs := defs₀ (F := F)) 𝒱₀ (c : Thread nD τ) none Set.univ (m := locM) (r := rowsR g) (S := (rowsM g).view.set) (f := f)
    (hl := hl) (k := k) (Finset.Subset.refl _)) $$ Hr
  iintro Hr
  iapply Hk
  iapply Hback $$ Hr

theorem step_q (g : Fin 4) {hl : qM.view.LoadsAt (Rect.unit (s := S64x64) ![16 * g.val, 0] S16x64.size (inb_q g)).toLoadRect}
    {k : Vec F S16x64 .bf16 → Prog (TpuEff nD τ sig (Elt F) Λ₀ .tc) α} :
    St X K c O A todo pend made sgot kept rest due got
      ⊢ iprop((St X K c O A todo pend made sgot kept rest due got -∗ runs c (k (qRows (X c) g)) Q)
          -∗ runs c (.op (.load qM (Rect.unit (s := S64x64) ![16 * g.val, 0] S16x64.size (inb_q g)).toLoadRect hl) k) Q) := by
  refine (focus_ins X K c O A todo pend made sgot kept rest due got).trans ?_
  unfold insP
  iintro ⟨⟨Hq, Hkk, Hv⟩, Hback⟩ Hk
  iapply (wp_load_rect (defs := defs₀ (F := F)) 𝒱₀ (c : Thread nD τ) none Set.univ (m := qM) (r := Rect.unit (s := S64x64) ![16 * g.val, 0] S16x64.size (inb_q g))
    (S := Finset.univ) (f := (X c).q) (hl := hl) (k := k) (Finset.subset_univ _)) $$ Hq
  iintro Hq
  iapply Hk
  iapply Hback
  isplitl [Hq]; · iexact Hq
  isplitl [Hkk] <;> iassumption

theorem step_k (g : Fin 4) {hl : kM.view.LoadsAt (Rect.unit (s := S64x64x512) ![16 * g.val, 0, 0] S16x64x512.size (inb_kv g)).toLoadRect}
    {k : Vec F S16x64x512 .bf16 → Prog (TpuEff nD τ sig (Elt F) Λ₀ .tc) α} :
    St X K c O A todo pend made sgot kept rest due got
      ⊢ iprop((St X K c O A todo pend made sgot kept rest due got -∗ runs c (k (kRows (X c) g)) Q)
          -∗ runs c (.op (.load kM (Rect.unit (s := S64x64x512) ![16 * g.val, 0, 0] S16x64x512.size (inb_kv g)).toLoadRect hl) k) Q) := by
  refine (focus_ins X K c O A todo pend made sgot kept rest due got).trans ?_
  unfold insP
  iintro ⟨⟨Hq, Hkk, Hv⟩, Hback⟩ Hk
  iapply (wp_load_rect (defs := defs₀ (F := F)) 𝒱₀ (c : Thread nD τ) none Set.univ (m := kM) (r := Rect.unit (s := S64x64x512) ![16 * g.val, 0, 0] S16x64x512.size (inb_kv g))
    (S := Finset.univ) (f := (X c).k) (hl := hl) (k := k) (Finset.subset_univ _)) $$ Hkk
  iintro Hkk
  iapply Hk
  iapply Hback
  isplitl [Hq]; · iexact Hq
  isplitl [Hkk] <;> iassumption

theorem step_v (g : Fin 4) {hl : vM.view.LoadsAt (Rect.unit (s := S64x64x512) ![16 * g.val, 0, 0] S16x64x512.size (inb_kv g)).toLoadRect}
    {k : Vec F S16x64x512 .bf16 → Prog (TpuEff nD τ sig (Elt F) Λ₀ .tc) α} :
    St X K c O A todo pend made sgot kept rest due got
      ⊢ iprop((St X K c O A todo pend made sgot kept rest due got -∗ runs c (k (vRows (X c) g)) Q)
          -∗ runs c (.op (.load vM (Rect.unit (s := S64x64x512) ![16 * g.val, 0, 0] S16x64x512.size (inb_kv g)).toLoadRect hl) k) Q) := by
  refine (focus_ins X K c O A todo pend made sgot kept rest due got).trans ?_
  unfold insP
  iintro ⟨⟨Hq, Hkk, Hv⟩, Hback⟩ Hk
  iapply (wp_load_rect (defs := defs₀ (F := F)) 𝒱₀ (c : Thread nD τ) none Set.univ (m := vM) (r := Rect.unit (s := S64x64x512) ![16 * g.val, 0, 0] S16x64x512.size (inb_kv g))
    (S := Finset.univ) (f := (X c).v) (hl := hl) (k := k) (Finset.subset_univ _)) $$ Hv
  iintro Hv
  iapply Hk
  iapply Hback
  isplitl [Hq]; · iexact Hq
  isplitl [Hkk] <;> iassumption

end Steps

end Cert.KernelIdealRun

end
-- ==== Proof.IRun.lean ====
/-
  The kernel's body, from its first signal to the last landing awaited.
-/
module

public import proofs.«01_k».proof.Proof.IStep

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-! ## The devices the kernel addresses -/

theorem dev1 : ∀ c : Dev nD, (⟨k0_dev1 c, k0_dev1_lt c⟩ : Dev nD) = pr 0 c := by decide +kernel
theorem dev2 : ∀ c : Dev nD, (⟨k0_dev2 c, k0_dev2_lt c⟩ : Dev nD) = pr 1 c := by decide +kernel
theorem dev3 : ∀ c : Dev nD, (⟨k0_dev3 c, k0_dev3_lt c⟩ : Dev nD) = pr 2 c := by decide +kernel
theorem dev4 : ∀ c : Dev nD, (⟨k0_dev4 c, k0_dev4_lt c⟩ : Dev nD) = pr 0 c := by decide +kernel
theorem dev5 : ∀ c : Dev nD, (⟨k0_dev5 c, k0_dev5_lt c⟩ : Dev nD) = pr 1 c := by decide +kernel
theorem dev6 : ∀ c : Dev nD, (⟨k0_dev6 c, k0_dev6_lt c⟩ : Dev nD) = pr 2 c := by decide +kernel
theorem dev7 : ∀ c : Dev nD, (⟨k0_dev7 c, k0_dev7_lt c⟩ : Dev nD) = pr 0 c := by decide +kernel
theorem dev8 : ∀ c : Dev nD, (⟨k0_dev8 c, k0_dev8_lt c⟩ : Dev nD) = pr 1 c := by decide +kernel
theorem dev9 : ∀ c : Dev nD, (⟨k0_dev9 c, k0_dev9_lt c⟩ : Dev nD) = pr 2 c := by decide +kernel
theorem dev10 : ∀ c : Dev nD, (⟨k0_dev10 c, k0_dev10_lt c⟩ : Dev nD) = pr 0 c := by decide +kernel
theorem dev11 : ∀ c : Dev nD, (⟨k0_dev11 c, k0_dev11_lt c⟩ : Dev nD) = pr 1 c := by decide +kernel
theorem dev12 : ∀ c : Dev nD, (⟨k0_dev12 c, k0_dev12_lt c⟩ : Dev nD) = pr 2 c := by decide +kernel
theorem dev13 : ∀ c : Dev nD, (⟨k0_dev13 c, k0_dev13_lt c⟩ : Dev nD) = pr 0 c := by decide +kernel
theorem dev14 : ∀ c : Dev nD, (⟨k0_dev14 c, k0_dev14_lt c⟩ : Dev nD) = pr 1 c := by decide +kernel
theorem dev15 : ∀ c : Dev nD, (⟨k0_dev15 c, k0_dev15_lt c⟩ : Dev nD) = pr 2 c := by decide +kernel

variable (X : Dev nD → Ins F) (K : GSem nD τ sig → ℕ)

/-! ## Before and after the barrier -/

/-- A device's slot, not yet written, and that its receive cells stand at their round. -/
def ownSlot (c : Dev nD) (s : Fin 3) : sProp 𝕄 :=
  bigSep Finset.univ fun g : Fin 4 => iprop((∃ f, slabP c (s, g) f) ∗ reached ER (recvCell c (s, g)) 0)
/-- For a signal still to make: the token of the duty it pays, where the cell stands, the slot it hands over. -/
def sigRes (c : Dev nD) (s : Fin 3) : sProp 𝕄 :=
  iprop(dutyTok ER (barCell (pr s c)) 0 s.rev ∗ reached ER (barCell (pr s c)) 0 ∗ ownSlot c s.rev)
/-- For a send still to make, before the slot it writes has been handed over. -/
def sendRes0 (c : Dev nD) (p : P) : sProp 𝕄 :=
  iprop(dutyTok ER (sendCell c p) 0 0 ∗ dutyTok ER (recvCell (pr p.1 c) p) 0 0 ∗ reached ER (sendCell c p) 0
    ∗ atPos ER (sendCell c p) 0 ∅ 0)
/-- What is owed with the signals of `l` to make. -/
def owedB (c : Dev nD) : List (Fin 3) → CellTallies nD τ sig Unit
  | [] => owed c order
  | s :: l => owedB c l + tallyAt (barCell (pr s c)) () 1

def outAny (c : Dev nD) : sProp 𝕄 := iprop(∃ f, ((c : Thread nD τ).loc cc0_stg3_0 ↦{fullShare} f))
def phase0 (c : Dev nD) (l : List (Fin 3)) : sProp 𝕄 :=
  iprop(levAts L lv ∗ sepL (sigRes c) l ∗ cred (tallyAt (barCell c) () 3) ∗ atPos ER (barCell c) 0 ∅ 0
    ∗ sepL (sendRes0 c) order ∗ outAny c)
def phase1 (c : Dev nD) : sProp 𝕄 := iprop(atPos ER (barCell c) (0 + 1) ∅ 0 ∗ outAny c)

section Steps
variable (c : Dev nD) {α : Type} {Q : α → sProp (MT nD τ sig Unit (Elt F) ℕ UU ℕ)}
variable (A : sProp (MT nD τ sig Unit (Elt F) ℕ UU ℕ))
variable (todo pend made sgot : List P) (kept rest : List (Fin 4)) (due got : List P)

omit [FloatOps F] in
theorem barPay_own (s : Fin 3) : (barPay (pr s c) s.rev : sProp 𝕄) = ownSlot c s.rev := by
  unfold barPay ownSlot; rw [pr_rev]

/-- Before the barrier: what one signal takes, and the state back without it. -/
theorem focus_signal (s : Fin 3) (l : List (Fin 3)) (O : CellTallies nD τ sig Unit) :
    St X K c O (phase0 c (s :: l)) todo pend made sgot kept rest due got
      ⊢ iprop(invs X K ∗ (∃ W, owes (c : Thread nD τ) O W) ∗ sigRes c s
        ∗ (∀ O', (∃ W, owes (c : Thread nD τ) O' W) -∗ St X K c O' (phase0 c l) todo pend made sgot kept rest due got)) := by
  unfold St phase0
  rw [sepL_cons]
  iintro ⟨#HI, HO, ⟨Hlev, ⟨Hs, Hl⟩, HA⟩, Hrest⟩
  isplitr; · iexact HI
  isplitl [HO]; · iexact HO
  isplitl [Hs]; · iexact Hs
  iintro %O' HO
  isplitr; · iexact HI
  isplitl [HO]; · iexact HO
  isplitr [Hrest]
  · isplitl [Hlev]; · iexact Hlev
    isplitl [Hl]; · iexact Hl
    iexact HA
  iexact Hrest

/-- A signal: the slot it hands over goes to the barrier cell it counts. -/
theorem step_signal (s : Fin 3) (l : List (Fin 3)) (n : Dev nD) (hn : n = pr s c) (k' : Int) (hk' : k' = 1)
    {k : PUnit → Prog (TpuEff nD τ sig (Elt F) Λ₀ .tc) α} :
    St X K c (owedB c (s :: l)) (phase0 c (s :: l)) todo pend made sgot kept rest due got
      ⊢ iprop((St X K c (owedB c l) (phase0 c l) todo pend made sgot kept rest due got -∗ runs c (k ⟨⟩) Q)
          -∗ runs c (.op (.semSignal (n, .tc) barS k') k) Q) := by
  subst hn hk'
  refine (focus_signal X K c todo pend made sgot kept rest due got s l _).trans ?_
  iintro ⟨#HI, ⟨%W, HO⟩, Hs, Hback⟩ Hk
  unfold sigRes
  icases Hs with ⟨Ht, #Hr, Hown⟩
  iapply (Rounds.wp_signal 𝒱₀ ER (Rd X) (c : Thread nD τ) none (dst := (pr s c : Thread nD τ)) (sem := barS) (r := 0) (d := s.rev) (κ := K (barCell (pr s c)))
      (by rw [duties_bar]; exact Finset.mem_univ _) ((amount_bar X (pr s c) s.rev).trans (by decide)) () (owedB c l) rfl)
    $$ [HO Ht Hown]
  · isplitr; · iapply (inv_bar X K (pr s c)); iexact HI
    isplitl [HO]; · iexact HO
    isplitl [Ht]; · iexact Ht
    isplitl [Hown]
    · rw [payload_bar, barPay_own]; iexact Hown
    · iexact Hr
  iintro HO
  iapply Hk
  iapply Hback
  iexists W; iexact HO

omit [FloatOps F] in
/-- The slots the three others handed over, dealt to the sends that write them. -/
theorem deal_slots :
    iprop(sepL (sendRes0 c) order ∗ bigSep Finset.univ fun s : Fin 3 => barPay c s) ⊢ (sepL (sendRes c) order : sProp 𝕄) := by
  have e : (bigSep Finset.univ fun s : Fin 3 => (barPay c s : sProp 𝕄))
      = bigSep Finset.univ fun p : P => iprop((∃ f, slabP (pr p.1 c) p f) ∗ reached ER (recvCell (pr p.1 c) p) 0) := by
    unfold barPay
    exact (bigSep_univ_prod (fun p : P => (iprop((∃ f, slabP (pr p.1 c) p f) ∗ reached ER (recvCell (pr p.1 c) p) 0) : sProp 𝕄))).symm
  rw [e, sepL_univ (sendRes0 c) order (by decide) (by decide), sepL_univ (sendRes c) order (by decide) (by decide)]
  have h : ∀ p : P, iprop(sendRes0 c p ∗ (∃ f, slabP (pr p.1 c) p f) ∗ reached ER (recvCell (pr p.1 c) p) 0) ⊢ (sendRes c p : sProp 𝕄) := by
    intro p
    unfold sendRes0 sendRes
    iintro ⟨⟨Ht, Hu, Hr, Hat⟩, Hs, Hr'⟩
    isplitl [Ht]; · iexact Ht
    isplitl [Hu]; · iexact Hu
    isplitl [Hr]; · iexact Hr
    isplitl [Hr']; · iexact Hr'
    isplitl [Hs] <;> iassumption
  exact (Entails.of_eq (bigSep_sep' _ _ _).symm).trans (bigSep_mono fun p _ => h p)

theorem focus_barrier (O : CellTallies nD τ sig Unit) :
    St X K c O (phase0 c []) [] pend made sgot kept rest due got
      ⊢ iprop(invs X K ∗ (∃ W, owes (c : Thread nD τ) O W) ∗ levAts L lv ∗ cred (tallyAt (barCell c) () 3) ∗ atPos ER (barCell c) 0 ∅ 0
        ∗ ((∃ W, owes (c : Thread nD τ) O W) -∗ atPos ER (barCell c) (0 + 1) ∅ 0 -∗ (bigSep Finset.univ fun s : Fin 3 => barPay c s)
            -∗ St X K c O (phase1 c) order pend made sgot kept rest due got)) := by
  unfold St phase0 phase1
  iintro ⟨#HI, HO, ⟨Hlev, -, Hc, Hat, Hs, Hout⟩, -, Hrest⟩
  isplitr; · iexact HI
  isplitl [HO]; · iexact HO
  isplitl [Hlev]; · iexact Hlev
  isplitl [Hc]; · iexact Hc
  isplitl [Hat]; · iexact Hat
  iintro HO Hat Hp
  isplitr; · iexact HI
  isplitl [HO]; · iexact HO
  isplitl [Hat Hout]; · isplitl [Hat] <;> iassumption
  isplitl [Hs Hp]
  · iapply (deal_slots c); isplitl [Hs] <;> iassumption
  iexact Hrest

/-- The wait on the device's own barrier cell, owing the sends: the slots of the three others come. -/
theorem step_barrier (k' : Int) (hk' : k' = 3)
    {k : PUnit → Prog (TpuEff nD τ sig (Elt F) Λ₀ .tc) α} :
    St X K c (owedB c []) (phase0 c []) [] pend made sgot kept rest due got
      ⊢ iprop((St X K c (owed c order) (phase1 c) order pend made sgot kept rest due got -∗ runs c (k ⟨⟩) Q)
          -∗ runs c (.op (.semWait barS k') k) Q) := by
  subst hk'
  refine (focus_barrier X K c pend made sgot kept rest due got _).trans ?_
  iintro ⟨#HI, ⟨%W, HO⟩, #Hlev, Hc, Hat, Hback⟩ Hk
  iapply (Rounds.wp_wait_rest_token 𝒱₀ ER (Rd X) (c : Thread nD τ) none (κ := K (barCell c))
      (wpE_semWait_eq 𝒱₀ (c : Thread nD τ) none Set.univ) (Set.mem_univ _) () (O := owed c order) (W := W) (R := 0) (m := 0) (T := ∅)
      (by rw [expect_bar])) $$ [Hc HO Hat]
  · isplitr; · iapply (inv_bar X K c); iexact HI
    isplitl [Hc]; · iexact Hc
    isplitl [HO]; · iexact HO
    isplitr; · iapply (mayWait_bar c order); iexact Hlev
    iexact Hat
  iintro ⟨HO, Hat, -, Hpay⟩
  ihave Hp := (Entails.of_eq (rest_bar X c)) $$ Hpay
  iapply Hk
  iapply Hback $$ [HO] Hat Hp
  iexists _; iexact HO

end Steps

end Cert.KernelIdealRun

end
-- ==== Proof.IPartsA.lean ====
/-
  The kernel's parts, one by one: what each does to the state.
-/
module

public import proofs.«01_k».proof.Proof.IRun

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (X : Dev nD → Ins F) (K : GSem nD τ sig → ℕ) (c : Dev nD)
variable (h0 : qM.IsWhole) (h1 : kM.IsWhole) (h2 : vM.IsWhole) (h3 : oM.IsWhole) (h4 : locM.IsWhole) (h5 : commM.IsWhole)

theorem part1 {Q : (Σ' (d0 : Dev nD) (v2 : BitVec 32) (v5 : BitVec 32) (v8 : BitVec 32) (v9 : Sems sig S_) (v29 : BitVec 32) (v30 : BitVec 32) (v31 : BitVec 1) (v32 : BitVec 1), BitVec 32) → sProp (MT nD τ sig Unit (Elt F) ℕ UU ℕ)} :
    St X K c (owedB c [0, 1, 2]) (phase0 c [0, 1, 2]) [] [] [] [] [] [0, 1, 2, 3] [(0, 0), (1, 0), (2, 0), (0, 1), (1, 1), (2, 1), (0, 2), (1, 2), (2, 2), (0, 3), (1, 3), (2, 3)] []
      ⊢ iprop((∀ v2 v5 v8 v29 v30 v31 v32, St X K c (owedB c [1, 2]) (phase0 c [1, 2]) [] [] [] [] [] [0, 1, 2, 3] [(0, 0), (1, 0), (2, 0), (0, 1), (1, 1), (2, 1), (0, 2), (1, 2), (2, 2), (0, 3), (1, 3), (2, 3)] [] -∗ Q ⟨c, v2, v5, v8, SemArray.scalar (sig.barrier 0 rfl), v29, v30, v31, v32, 0#32⟩)
        -∗ runs c (k0_part1 qM h0 kM h1 vM h2 oM h3 locM h4 commM h5 cc0_scratch2 cc0_scratch3) Q) := by
  unfold runs
  simp only [k0_part1_eq_skeleton]; unfold k0_part1_skel
  simp only [semSignalWord, semWaitWord, Prog.lift, Prog.bind_op, Prog.bind_ret, Prog.pure_eq_ret, wp_deviceId]
  iintro H Hk
  iapply (step_signal X K c [] [] [] [] [] [0, 1, 2, 3] [(0, 0), (1, 0), (2, 0), (0, 1), (1, 1), (2, 1), (0, 2), (1, 2), (2, 2), (0, 3), (1, 3), (2, 3)] [] 0 [1, 2] _ (dev1 c) _ (by decide)) $$ H
  iintro H
  unfold runs
  rw [wp_ret]; imodintro; iapply Hk; iexact H

theorem part2 (v2 : BitVec 32) (v5 : BitVec 32) (v8 : BitVec 32) (v29 : BitVec 32) (v30 : BitVec 32) (v31 : BitVec 1) (v32 : BitVec 1) (c0_i32_19 : BitVec 32) {Q : (FVec F S16x64x512 .f32) → sProp (MT nD τ sig Unit (Elt F) ℕ UU ℕ)} :
    St X K c (owedB c [1, 2]) (phase0 c [1, 2]) [] [] [] [] [] [0, 1, 2, 3] [(0, 0), (1, 0), (2, 0), (0, 1), (1, 1), (2, 1), (0, 2), (1, 2), (2, 2), (0, 3), (1, 3), (2, 3)] []
      ⊢ iprop((St X K c (owedB c []) (phase0 c []) [] [] [] [] [] [0, 1, 2, 3] [(0, 0), (1, 0), (2, 0), (0, 1), (1, 1), (2, 1), (0, 2), (1, 2), (2, 2), (0, 3), (1, 3), (2, 3)] [] -∗ Q (k0_pay1 (qRows (X c) 0) (kRows (X c) 0)))
        -∗ runs c (k0_part2 qM h0 kM h1 vM h2 oM h3 locM h4 commM h5 cc0_scratch2 cc0_scratch3 c v2 v5 v8 (SemArray.scalar (sig.barrier 0 rfl)) v29 v30 v31 v32 c0_i32_19) Q) := by
  unfold runs
  simp only [k0_part2_eq_skeleton]; unfold k0_part2_skel
  simp only [semSignalWord, semWaitWord, Prog.lift, Prog.bind_op, Prog.bind_ret, Prog.pure_eq_ret, wp_deviceId]
  iintro H Hk
  iapply (step_signal X K c [] [] [] [] [] [0, 1, 2, 3] [(0, 0), (1, 0), (2, 0), (0, 1), (1, 1), (2, 1), (0, 2), (1, 2), (2, 2), (0, 3), (1, 3), (2, 3)] [] 1 [2] _ (dev2 c) _ (by decide)) $$ H
  iintro H
  iapply (step_signal X K c [] [] [] [] [] [0, 1, 2, 3] [(0, 0), (1, 0), (2, 0), (0, 1), (1, 1), (2, 1), (0, 2), (1, 2), (2, 2), (0, 3), (1, 3), (2, 3)] [] 2 [] _ (dev3 c) _ (by decide)) $$ H
  iintro H
  iapply (step_q X K c (owedB c []) (phase0 c []) [] [] [] [] [] [0, 1, 2, 3] [(0, 0), (1, 0), (2, 0), (0, 1), (1, 1), (2, 1), (0, 2), (1, 2), (2, 2), (0, 3), (1, 3), (2, 3)] [] 0) $$ H
  iintro H
  iapply (step_k X K c (owedB c []) (phase0 c []) [] [] [] [] [] [0, 1, 2, 3] [(0, 0), (1, 0), (2, 0), (0, 1), (1, 1), (2, 1), (0, 2), (1, 2), (2, 2), (0, 3), (1, 3), (2, 3)] [] 0) $$ H
  iintro H
  unfold runs
  rw [wp_ret]; imodintro; iapply Hk; iexact H

theorem part3 (v8 : BitVec 32) {Q : (BitVec 32) → sProp (MT nD τ sig Unit (Elt F) ℕ UU ℕ)} :
    St X K c (owedB c []) (phase0 c []) [] [] [] [] [] [0, 1, 2, 3] [(0, 0), (1, 0), (2, 0), (0, 1), (1, 1), (2, 1), (0, 2), (1, 2), (2, 2), (0, 3), (1, 3), (2, 3)] []
      ⊢ iprop((∀ r, St X K c (owed c [(0, 0), (1, 0), (2, 0), (0, 1), (1, 1), (2, 1), (0, 2), (1, 2), (2, 2), (0, 3), (1, 3), (2, 3)]) (phase1 c) [(0, 0), (1, 0), (2, 0), (0, 1), (1, 1), (2, 1), (0, 2), (1, 2), (2, 2), (0, 3), (1, 3), (2, 3)] [(0, 0), (1, 0), (2, 0)] [] [] [0] [1, 2, 3] [(0, 0), (1, 0), (2, 0), (0, 1), (1, 1), (2, 1), (0, 2), (1, 2), (2, 2), (0, 3), (1, 3), (2, 3)] [] -∗ Q r)
        -∗ runs c (k0_part3 qM h0 kM h1 vM h2 oM h3 locM h4 commM h5 cc0_scratch2 cc0_scratch3 v8 (SemArray.scalar (sig.barrier 0 rfl)) (k0_pay1 (qRows (X c) 0) (kRows (X c) 0))) Q) := by
  unfold runs
  simp only [k0_part3_eq_skeleton]; unfold k0_part3_skel
  simp only [semSignalWord, semWaitWord, Prog.lift, Prog.bind_op, Prog.bind_ret, Prog.pure_eq_ret, wp_deviceId]
  iintro H Hk
  iapply (step_v X K c (owedB c []) (phase0 c []) [] [] [] [] [] [0, 1, 2, 3] [(0, 0), (1, 0), (2, 0), (0, 1), (1, 1), (2, 1), (0, 2), (1, 2), (2, 2), (0, 3), (1, 3), (2, 3)] [] 0) $$ H
  iintro H
  iapply (step_peek X K c (owedB c []) (phase0 c []) [] [] [] [] [] [1, 2, 3] [(0, 0), (1, 0), (2, 0), (0, 1), (1, 1), (2, 1), (0, 2), (1, 2), (2, 2), (0, 3), (1, 3), (2, 3)] [] 0) $$ H
  iintro %w H
  iapply (step_store X K c (owedB c []) (phase0 c []) [] [] [] [] [] [1, 2, 3] [(0, 0), (1, 0), (2, 0), (0, 1), (1, 1), (2, 1), (0, 2), (1, 2), (2, 2), (0, 3), (1, 3), (2, 3)] [] 0 _ (pay_first _ _ _)) $$ H
  iintro H
  iapply (step_barrier X K c [(0, 0), (1, 0), (2, 0)] [] [] [0] [1, 2, 3] [(0, 0), (1, 0), (2, 0), (0, 1), (1, 1), (2, 1), (0, 2), (1, 2), (2, 2), (0, 3), (1, 3), (2, 3)] [] _ (by decide)) $$ H
  iintro H
  unfold runs
  rw [wp_ret]; imodintro; iapply Hk; iexact H

theorem part4 (v2 : BitVec 32) (v5 : BitVec 32) (v8 : BitVec 32) (v105 : BitVec 32) {Q : (PUnit) → sProp (MT nD τ sig Unit (Elt F) ℕ UU ℕ)} :
    St X K c (owed c [(0, 0), (1, 0), (2, 0), (0, 1), (1, 1), (2, 1), (0, 2), (1, 2), (2, 2), (0, 3), (1, 3), (2, 3)]) (phase1 c) [(0, 0), (1, 0), (2, 0), (0, 1), (1, 1), (2, 1), (0, 2), (1, 2), (2, 2), (0, 3), (1, 3), (2, 3)] [(0, 0), (1, 0), (2, 0)] [] [] [0] [1, 2, 3] [(0, 0), (1, 0), (2, 0), (0, 1), (1, 1), (2, 1), (0, 2), (1, 2), (2, 2), (0, 3), (1, 3), (2, 3)] []
      ⊢ iprop((St X K c (owed c [(1, 0), (2, 0), (0, 1), (1, 1), (2, 1), (0, 2), (1, 2), (2, 2), (0, 3), (1, 3), (2, 3)]) (phase1 c) [(1, 0), (2, 0), (0, 1), (1, 1), (2, 1), (0, 2), (1, 2), (2, 2), (0, 3), (1, 3), (2, 3)] [(1, 0), (2, 0)] [(0, 0)] [] [0] [1, 2, 3] [(0, 0), (1, 0), (2, 0), (0, 1), (1, 1), (2, 1), (0, 2), (1, 2), (2, 2), (0, 3), (1, 3), (2, 3)] [] -∗ Q ⟨⟩)
        -∗ runs c (k0_part4 qM h0 kM h1 vM h2 oM h3 locM h4 commM h5 cc0_scratch2 cc0_scratch3 c v2 v5 v8 v105) Q) := by
  unfold runs
  simp only [k0_part4_eq_skeleton]; unfold k0_part4_skel
  simp only [semSignalWord, semWaitWord, Prog.lift, Prog.bind_op, Prog.bind_ret, Prog.pure_eq_ret, wp_deviceId]
  iintro H Hk
  iapply (step_send X K c (phase1 c) [(1, 0), (2, 0), (0, 1), (1, 1), (2, 1), (0, 2), (1, 2), (2, 2), (0, 3), (1, 3), (2, 3)] [(1, 0), (2, 0)] [] [] [0] [1, 2, 3] [(0, 0), (1, 0), (2, 0), (0, 1), (1, 1), (2, 1), (0, 2), (1, 2), (2, 2), (0, 3), (1, 3), (2, 3)] [] (0, 0) _ (dev4 c)) $$ H
  iintro H
  unfold runs
  rw [wp_ret]; imodintro; iapply Hk; iexact H

theorem part5 (v2 : BitVec 32) (v5 : BitVec 32) (v8 : BitVec 32) {Q : (FVec F S16x64 .bf16) → sProp (MT nD τ sig Unit (Elt F) ℕ UU ℕ)} :
    St X K c (owed c [(1, 0), (2, 0), (0, 1), (1, 1), (2, 1), (0, 2), (1, 2), (2, 2), (0, 3), (1, 3), (2, 3)]) (phase1 c) [(1, 0), (2, 0), (0, 1), (1, 1), (2, 1), (0, 2), (1, 2), (2, 2), (0, 3), (1, 3), (2, 3)] [(1, 0), (2, 0)] [(0, 0)] [] [0] [1, 2, 3] [(0, 0), (1, 0), (2, 0), (0, 1), (1, 1), (2, 1), (0, 2), (1, 2), (2, 2), (0, 3), (1, 3), (2, 3)] []
      ⊢ iprop((St X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [1, 2, 3] [(0, 0), (1, 0), (2, 0), (0, 1), (1, 1), (2, 1), (0, 2), (1, 2), (2, 2), (0, 3), (1, 3), (2, 3)] [] -∗ Q (k0_pay3 (qRows (X c) 1)))
        -∗ runs c (k0_part5 qM h0 kM h1 vM h2 oM h3 locM h4 commM h5 cc0_scratch2 cc0_scratch3 c v2 v5 v8) Q) := by
  unfold runs
  simp only [k0_part5_eq_skeleton]; unfold k0_part5_skel
  simp only [semSignalWord, semWaitWord, Prog.lift, Prog.bind_op, Prog.bind_ret, Prog.pure_eq_ret, wp_deviceId]
  iintro H Hk
  iapply (step_send X K c (phase1 c) [(2, 0), (0, 1), (1, 1), (2, 1), (0, 2), (1, 2), (2, 2), (0, 3), (1, 3), (2, 3)] [(2, 0)] [(0, 0)] [] [0] [1, 2, 3] [(0, 0), (1, 0), (2, 0), (0, 1), (1, 1), (2, 1), (0, 2), (1, 2), (2, 2), (0, 3), (1, 3), (2, 3)] [] (1, 0) _ (dev5 c)) $$ H
  iintro H
  iapply (step_send X K c (phase1 c) [(0, 1), (1, 1), (2, 1), (0, 2), (1, 2), (2, 2), (0, 3), (1, 3), (2, 3)] [] [(1, 0), (0, 0)] [] [0] [1, 2, 3] [(0, 0), (1, 0), (2, 0), (0, 1), (1, 1), (2, 1), (0, 2), (1, 2), (2, 2), (0, 3), (1, 3), (2, 3)] [] (2, 0) _ (dev6 c)) $$ H
  iintro H
  iapply (step_q X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [1, 2, 3] [(0, 0), (1, 0), (2, 0), (0, 1), (1, 1), (2, 1), (0, 2), (1, 2), (2, 2), (0, 3), (1, 3), (2, 3)] [] 1) $$ H
  iintro H
  unfold runs
  rw [wp_ret]; imodintro; iapply Hk; iexact H

theorem part6 (v8 : BitVec 32) {Q : (Σ' (v203 : BitVec 32) (v204 : BitVec 32) (v205 : BitVec 1), BitVec 1) → sProp (MT nD τ sig Unit (Elt F) ℕ UU ℕ)} :
    St X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [1, 2, 3] [(0, 0), (1, 0), (2, 0), (0, 1), (1, 1), (2, 1), (0, 2), (1, 2), (2, 2), (0, 3), (1, 3), (2, 3)] []
      ⊢ iprop((∀ r, St X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [(0, 1), (1, 1), (2, 1)] [(2, 0), (1, 0), (0, 0)] [] [1, 0] [2, 3] [(0, 0), (1, 0), (2, 0), (0, 1), (1, 1), (2, 1), (0, 2), (1, 2), (2, 2), (0, 3), (1, 3), (2, 3)] [] -∗ Q r)
        -∗ runs c (k0_part6 qM h0 kM h1 vM h2 oM h3 locM h4 commM h5 cc0_scratch2 cc0_scratch3 v8 (k0_pay3 (qRows (X c) 1))) Q) := by
  unfold runs
  simp only [k0_part6_eq_skeleton]; unfold k0_part6_skel
  simp only [semSignalWord, semWaitWord, Prog.lift, Prog.bind_op, Prog.bind_ret, Prog.pure_eq_ret, wp_deviceId]
  iintro H Hk
  iapply (step_k X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [1, 2, 3] [(0, 0), (1, 0), (2, 0), (0, 1), (1, 1), (2, 1), (0, 2), (1, 2), (2, 2), (0, 3), (1, 3), (2, 3)] [] 1) $$ H
  iintro H
  iapply (step_v X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [1, 2, 3] [(0, 0), (1, 0), (2, 0), (0, 1), (1, 1), (2, 1), (0, 2), (1, 2), (2, 2), (0, 3), (1, 3), (2, 3)] [] 1) $$ H
  iintro H
  iapply (step_peek X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [2, 3] [(0, 0), (1, 0), (2, 0), (0, 1), (1, 1), (2, 1), (0, 2), (1, 2), (2, 2), (0, 3), (1, 3), (2, 3)] [] 1) $$ H
  iintro %w H
  iapply (step_store X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [] [(2, 0), (1, 0), (0, 0)] [] [0] [2, 3] [(0, 0), (1, 0), (2, 0), (0, 1), (1, 1), (2, 1), (0, 2), (1, 2), (2, 2), (0, 3), (1, 3), (2, 3)] [] 1 _ (pay_second _ _ _)) $$ H
  iintro H
  unfold runs
  rw [wp_ret]; imodintro; iapply Hk; iexact H

theorem part7 (v2 : BitVec 32) (v5 : BitVec 32) (v8 : BitVec 32) (v203 : BitVec 32) (v204 : BitVec 32) (v205 : BitVec 1) (v208 : BitVec 1) {Q : (Σ' (v235 : BitVec 32), BitVec 32) → sProp (MT nD τ sig Unit (Elt F) ℕ UU ℕ)} :
    St X K c (owed c [(0, 1), (1, 1), (2, 1), (0, 2), (1, 2), (2, 2), (0, 3), (1, 3), (2, 3)]) (phase1 c) [(0, 1), (1, 1), (2, 1), (0, 2), (1, 2), (2, 2), (0, 3), (1, 3), (2, 3)] [(0, 1), (1, 1), (2, 1)] [(2, 0), (1, 0), (0, 0)] [] [1, 0] [2, 3] [(0, 0), (1, 0), (2, 0), (0, 1), (1, 1), (2, 1), (0, 2), (1, 2), (2, 2), (0, 3), (1, 3), (2, 3)] []
      ⊢ iprop((∀ r, St X K c (owed c [(1, 1), (2, 1), (0, 2), (1, 2), (2, 2), (0, 3), (1, 3), (2, 3)]) (phase1 c) [(1, 1), (2, 1), (0, 2), (1, 2), (2, 2), (0, 3), (1, 3), (2, 3)] [(1, 1), (2, 1)] [(0, 1), (2, 0), (1, 0), (0, 0)] [] [1, 0] [2, 3] [(0, 0), (1, 0), (2, 0), (0, 1), (1, 1), (2, 1), (0, 2), (1, 2), (2, 2), (0, 3), (1, 3), (2, 3)] [] -∗ Q r)
        -∗ runs c (k0_part7 qM h0 kM h1 vM h2 oM h3 locM h4 commM h5 cc0_scratch2 cc0_scratch3 c v2 v5 v8 v203 v204 v205 v208) Q) := by
  unfold runs
  simp only [k0_part7_eq_skeleton]; unfold k0_part7_skel
  simp only [semSignalWord, semWaitWord, Prog.lift, Prog.bind_op, Prog.bind_ret, Prog.pure_eq_ret, wp_deviceId]
  iintro H Hk
  iapply (step_send X K c (phase1 c) [(1, 1), (2, 1), (0, 2), (1, 2), (2, 2), (0, 3), (1, 3), (2, 3)] [(1, 1), (2, 1)] [(2, 0), (1, 0), (0, 0)] [] [1, 0] [2, 3] [(0, 0), (1, 0), (2, 0), (0, 1), (1, 1), (2, 1), (0, 2), (1, 2), (2, 2), (0, 3), (1, 3), (2, 3)] [] (0, 1) _ (dev7 c)) $$ H
  iintro H
  unfold runs
  rw [wp_ret]; imodintro; iapply Hk; iexact H

theorem part8 (v2 : BitVec 32) (v5 : BitVec 32) (v8 : BitVec 32) (v235 : BitVec 32) (v239 : BitVec 32) {Q : (PUnit) → sProp (MT nD τ sig Unit (Elt F) ℕ UU ℕ)} :
    St X K c (owed c [(1, 1), (2, 1), (0, 2), (1, 2), (2, 2), (0, 3), (1, 3), (2, 3)]) (phase1 c) [(1, 1), (2, 1), (0, 2), (1, 2), (2, 2), (0, 3), (1, 3), (2, 3)] [(1, 1), (2, 1)] [(0, 1), (2, 0), (1, 0), (0, 0)] [] [1, 0] [2, 3] [(0, 0), (1, 0), (2, 0), (0, 1), (1, 1), (2, 1), (0, 2), (1, 2), (2, 2), (0, 3), (1, 3), (2, 3)] []
      ⊢ iprop((St X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [2, 3] [(0, 0), (1, 0), (2, 0), (0, 1), (1, 1), (2, 1), (0, 2), (1, 2), (2, 2), (0, 3), (1, 3), (2, 3)] [] -∗ Q ⟨⟩)
        -∗ runs c (k0_part8 qM h0 kM h1 vM h2 oM h3 locM h4 commM h5 cc0_scratch2 cc0_scratch3 c v2 v5 v8 v235 v239) Q) := by
  unfold runs
  simp only [k0_part8_eq_skeleton]; unfold k0_part8_skel
  simp only [semSignalWord, semWaitWord, Prog.lift, Prog.bind_op, Prog.bind_ret, Prog.pure_eq_ret, wp_deviceId]
  iintro H Hk
  iapply (step_send X K c (phase1 c) [(2, 1), (0, 2), (1, 2), (2, 2), (0, 3), (1, 3), (2, 3)] [(2, 1)] [(0, 1), (2, 0), (1, 0), (0, 0)] [] [1, 0] [2, 3] [(0, 0), (1, 0), (2, 0), (0, 1), (1, 1), (2, 1), (0, 2), (1, 2), (2, 2), (0, 3), (1, 3), (2, 3)] [] (1, 1) _ (dev8 c)) $$ H
  iintro H
  iapply (step_send X K c (phase1 c) [(0, 2), (1, 2), (2, 2), (0, 3), (1, 3), (2, 3)] [] [(1, 1), (0, 1), (2, 0), (1, 0), (0, 0)] [] [1, 0] [2, 3] [(0, 0), (1, 0), (2, 0), (0, 1), (1, 1), (2, 1), (0, 2), (1, 2), (2, 2), (0, 3), (1, 3), (2, 3)] [] (2, 1) _ (dev9 c)) $$ H
  iintro H
  unfold runs
  rw [wp_ret]; imodintro; iapply Hk; iexact H

theorem part9 (v8 : BitVec 32) {Q : (Σ' (v309 : BitVec 32) (v310 : BitVec 32), BitVec 1) → sProp (MT nD τ sig Unit (Elt F) ℕ UU ℕ)} :
    St X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [2, 3] [(0, 0), (1, 0), (2, 0), (0, 1), (1, 1), (2, 1), (0, 2), (1, 2), (2, 2), (0, 3), (1, 3), (2, 3)] []
      ⊢ iprop((∀ r, St X K c (owed c [(0, 2), (1, 2), (2, 2), (0, 3), (1, 3), (2, 3)]) (phase1 c) [(0, 2), (1, 2), (2, 2), (0, 3), (1, 3), (2, 3)] [(0, 2), (1, 2), (2, 2)] [(2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] -∗ Q r)
        -∗ runs c (k0_part9 qM h0 kM h1 vM h2 oM h3 locM h4 commM h5 cc0_scratch2 cc0_scratch3 v8) Q) := by
  unfold runs
  simp only [k0_part9_eq_skeleton]; unfold k0_part9_skel
  simp only [semSignalWord, semWaitWord, Prog.lift, Prog.bind_op, Prog.bind_ret, Prog.pure_eq_ret, wp_deviceId]
  iintro H Hk
  iapply (step_q X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [2, 3] [(0, 0), (1, 0), (2, 0), (0, 1), (1, 1), (2, 1), (0, 2), (1, 2), (2, 2), (0, 3), (1, 3), (2, 3)] [] 2) $$ H
  iintro H
  iapply (step_k X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [2, 3] [(0, 0), (1, 0), (2, 0), (0, 1), (1, 1), (2, 1), (0, 2), (1, 2), (2, 2), (0, 3), (1, 3), (2, 3)] [] 2) $$ H
  iintro H
  iapply (step_v X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [2, 3] [(0, 0), (1, 0), (2, 0), (0, 1), (1, 1), (2, 1), (0, 2), (1, 2), (2, 2), (0, 3), (1, 3), (2, 3)] [] 2) $$ H
  iintro H
  iapply (step_peek X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [3] [(0, 0), (1, 0), (2, 0), (0, 1), (1, 1), (2, 1), (0, 2), (1, 2), (2, 2), (0, 3), (1, 3), (2, 3)] [] 2) $$ H
  iintro %w H
  iapply (step_store X K c (owed c [(0, 2), (1, 2), (2, 2), (0, 3), (1, 3), (2, 3)]) (phase1 c) [(0, 2), (1, 2), (2, 2), (0, 3), (1, 3), (2, 3)] [] [(2, 1), (1, 1), (0, 1), (2, 0), (1, 0), (0, 0)] [] [1, 0] [3] [(0, 0), (1, 0), (2, 0), (0, 1), (1, 1), (2, 1), (0, 2), (1, 2), (2, 2), (0, 3), (1, 3), (2, 3)] [] 2 _ rfl) $$ H
  iintro H
  unfold runs
  rw [wp_ret]; imodintro; iapply Hk; iexact H

theorem part10 (v2 : BitVec 32) (v5 : BitVec 32) (v8 : BitVec 32) (v309 : BitVec 32) (v310 : BitVec 32) (v311 : BitVec 1) {Q : (Σ' (v341 : BitVec 32), BitVec 32) → sProp (MT nD τ sig Unit (Elt F) ℕ UU ℕ)} :
    St X K c (owed c [(0, 2), (1, 2), (2, 2), (0, 3), (1, 3), (2, 3)]) (phase1 c) [(0, 2), (1, 2), (2, 2), (0, 3), (1, 3), (2, 3)] [(0, 2), (1, 2), (2, 2)] [(2, 1), (1, 1), (0, 1), (2, 0), (1, 0), (0, 0)] [] [2, 1, 0] [3] [(0, 0), (1, 0), (2, 0), (0, 1), (1, 1), (2, 1), (0, 2), (1, 2), (2, 2), (0, 3), (1, 3), (2, 3)] []
      ⊢ iprop((∀ r, St X K c (owed c [(1, 2), (2, 2), (0, 3), (1, 3), (2, 3)]) (phase1 c) [(1, 2), (2, 2), (0, 3), (1, 3), (2, 3)] [(1, 2), (2, 2)] [(0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] -∗ Q r)
        -∗ runs c (k0_part10 qM h0 kM h1 vM h2 oM h3 locM h4 commM h5 cc0_scratch2 cc0_scratch3 c v2 v5 v8 v309 v310 v311) Q) := by
  unfold runs
  simp only [k0_part10_eq_skeleton]; unfold k0_part10_skel
  simp only [semSignalWord, semWaitWord, Prog.lift, Prog.bind_op, Prog.bind_ret, Prog.pure_eq_ret, wp_deviceId]
  iintro H Hk
  iapply (step_send X K c (phase1 c) [(1, 2), (2, 2), (0, 3), (1, 3), (2, 3)] [(1, 2), (2, 2)] [(2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] (0, 2) _ (dev10 c)) $$ H
  iintro H
  unfold runs
  rw [wp_ret]; imodintro; iapply Hk; iexact H

theorem part11 (v2 : BitVec 32) (v5 : BitVec 32) (v8 : BitVec 32) (v341 : BitVec 32) (v342 : BitVec 32) {Q : (PUnit) → sProp (MT nD τ sig Unit (Elt F) ℕ UU ℕ)} :
    St X K c (owed c [(1, 2), (2, 2), (0, 3), (1, 3), (2, 3)]) (phase1 c) [(1, 2), (2, 2), (0, 3), (1, 3), (2, 3)] [(1, 2), (2, 2)] [(0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] []
      ⊢ iprop((St X K c (owed c [(2, 2), (0, 3), (1, 3), (2, 3)]) (phase1 c) [(2, 2), (0, 3), (1, 3), (2, 3)] [(2, 2)] [(1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] -∗ Q ⟨⟩)
        -∗ runs c (k0_part11 qM h0 kM h1 vM h2 oM h3 locM h4 commM h5 cc0_scratch2 cc0_scratch3 c v2 v5 v8 v341 v342) Q) := by
  unfold runs
  simp only [k0_part11_eq_skeleton]; unfold k0_part11_skel
  simp only [semSignalWord, semWaitWord, Prog.lift, Prog.bind_op, Prog.bind_ret, Prog.pure_eq_ret, wp_deviceId]
  iintro H Hk
  iapply (step_send X K c (phase1 c) [(2, 2), (0, 3), (1, 3), (2, 3)] [(2, 2)] [(0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] (1, 2) _ (dev11 c)) $$ H
  iintro H
  unfold runs
  rw [wp_ret]; imodintro; iapply Hk; iexact H

theorem part12 (v8 : BitVec 32) {Q : (Σ' (v413 : BitVec 32) (c4_i32_272 : BitVec 32), BitVec 1) → sProp (MT nD τ sig Unit (Elt F) ℕ UU ℕ)} :
    St X K c (owed c [(2, 2), (0, 3), (1, 3), (2, 3)]) (phase1 c) [(2, 2), (0, 3), (1, 3), (2, 3)] [(2, 2)] [(1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] []
      ⊢ iprop((∀ r, St X K c (owed c [(0, 3), (1, 3), (2, 3)]) (phase1 c) [(0, 3), (1, 3), (2, 3)] [(0, 3), (1, 3), (2, 3)] [(2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] -∗ Q r)
        -∗ runs c (k0_part12 qM h0 kM h1 vM h2 oM h3 locM h4 commM h5 cc0_scratch2 cc0_scratch3 c v8) Q) := by
  unfold runs
  simp only [k0_part12_eq_skeleton]; unfold k0_part12_skel
  simp only [semSignalWord, semWaitWord, Prog.lift, Prog.bind_op, Prog.bind_ret, Prog.pure_eq_ret, wp_deviceId]
  iintro H Hk
  iapply (step_send X K c (phase1 c) [(0, 3), (1, 3), (2, 3)] [] [(1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] (2, 2) _ (dev12 c)) $$ H
  iintro H
  iapply (step_q X K c (owed c [(0, 3), (1, 3), (2, 3)]) (phase1 c) [(0, 3), (1, 3), (2, 3)] [] [(2, 2), (1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] 3) $$ H
  iintro H
  iapply (step_k X K c (owed c [(0, 3), (1, 3), (2, 3)]) (phase1 c) [(0, 3), (1, 3), (2, 3)] [] [(2, 2), (1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] 3) $$ H
  iintro H
  iapply (step_v X K c (owed c [(0, 3), (1, 3), (2, 3)]) (phase1 c) [(0, 3), (1, 3), (2, 3)] [] [(2, 2), (1, 2), (0, 2), (2, 1), (1, 1), (0, 1), (2, 0), (1, 0), (0, 0)] [] [2, 1, 0] [3] [(0, 0), (1, 0), (2, 0), (0, 1), (1, 1), (2, 1), (0, 2), (1, 2), (2, 2), (0, 3), (1, 3), (2, 3)] [] 3) $$ H
  iintro H
  iapply (step_peek X K c (owed c [(0, 3), (1, 3), (2, 3)]) (phase1 c) [(0, 3), (1, 3), (2, 3)] [] [(2, 2), (1, 2), (0, 2), (2, 1), (1, 1), (0, 1), (2, 0), (1, 0), (0, 0)] [] [2, 1, 0] [] [(0, 0), (1, 0), (2, 0), (0, 1), (1, 1), (2, 1), (0, 2), (1, 2), (2, 2), (0, 3), (1, 3), (2, 3)] [] 3) $$ H
  iintro %w H
  iapply (step_store X K c (owed c [(0, 3), (1, 3), (2, 3)]) (phase1 c) [(0, 3), (1, 3), (2, 3)] [] [(2, 2), (1, 2), (0, 2), (2, 1), (1, 1), (0, 1), (2, 0), (1, 0), (0, 0)] [] [2, 1, 0] [] [(0, 0), (1, 0), (2, 0), (0, 1), (1, 1), (2, 1), (0, 2), (1, 2), (2, 2), (0, 3), (1, 3), (2, 3)] [] 3 _ (pay_fourth _ _ _)) $$ H
  iintro H
  unfold runs
  rw [wp_ret]; imodintro; iapply Hk; iexact H

theorem part13 (v2 : BitVec 32) (v5 : BitVec 32) (v8 : BitVec 32) (v413 : BitVec 32) (c4_i32_272 : BitVec 32) (v414 : BitVec 1) {Q : (BitVec 32) → sProp (MT nD τ sig Unit (Elt F) ℕ UU ℕ)} :
    St X K c (owed c [(0, 3), (1, 3), (2, 3)]) (phase1 c) [(0, 3), (1, 3), (2, 3)] [(0, 3), (1, 3), (2, 3)] [(2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] []
      ⊢ iprop((∀ r, St X K c (owed c [(1, 3), (2, 3)]) (phase1 c) [(1, 3), (2, 3)] [(1, 3), (2, 3)] [(0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] -∗ Q r)
        -∗ runs c (k0_part13 qM h0 kM h1 vM h2 oM h3 locM h4 commM h5 cc0_scratch2 cc0_scratch3 c v2 v5 v8 v413 c4_i32_272 v414) Q) := by
  unfold runs
  simp only [k0_part13_eq_skeleton]; unfold k0_part13_skel
  simp only [semSignalWord, semWaitWord, Prog.lift, Prog.bind_op, Prog.bind_ret, Prog.pure_eq_ret, wp_deviceId]
  iintro H Hk
  iapply (step_send X K c (phase1 c) [(1, 3), (2, 3)] [(1, 3), (2, 3)] [(2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] (0, 3) _ (dev13 c)) $$ H
  iintro H
  unfold runs
  rw [wp_ret]; imodintro; iapply Hk; iexact H

theorem part14 (v2 : BitVec 32) (v5 : BitVec 32) (v8 : BitVec 32) (v447 : BitVec 32) {Q : (PUnit) → sProp (MT nD τ sig Unit (Elt F) ℕ UU ℕ)} :
    St X K c (owed c [(1, 3), (2, 3)]) (phase1 c) [(1, 3), (2, 3)] [(1, 3), (2, 3)] [(0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] []
      ⊢ iprop((St X K c (owed c [(2, 3)]) (phase1 c) [(2, 3)] [(2, 3)] [(1, 3), (0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] -∗ Q ⟨⟩)
        -∗ runs c (k0_part14 qM h0 kM h1 vM h2 oM h3 locM h4 commM h5 cc0_scratch2 cc0_scratch3 c v2 v5 v8 v447) Q) := by
  unfold runs
  simp only [k0_part14_eq_skeleton]; unfold k0_part14_skel
  simp only [semSignalWord, semWaitWord, Prog.lift, Prog.bind_op, Prog.bind_ret, Prog.pure_eq_ret, wp_deviceId]
  iintro H Hk
  iapply (step_send X K c (phase1 c) [(2, 3)] [(2, 3)] [(0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] (1, 3) _ (dev14 c)) $$ H
  iintro H
  unfold runs
  rw [wp_ret]; imodintro; iapply Hk; iexact H

theorem part15 (v2 : BitVec 32) (v5 : BitVec 32) (v8 : BitVec 32) {Q : (Σ' (v507 : BitVec 32), BitVec 32) → sProp (MT nD τ sig Unit (Elt F) ℕ UU ℕ)} :
    St X K c (owed c [(2, 3)]) (phase1 c) [(2, 3)] [(2, 3)] [(1, 3), (0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] []
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(1, 0), (2, 0), (0, 1), (1, 1), (2, 1), (0, 2), (1, 2), (2, 2), (0, 3), (1, 3), (2, 3)] [(0, 0)] -∗ Q r)
        -∗ runs c (k0_part15 qM h0 kM h1 vM h2 oM h3 locM h4 commM h5 cc0_scratch2 cc0_scratch3 c v2 v5 v8) Q) := by
  unfold runs
  simp only [k0_part15_eq_skeleton]; unfold k0_part15_skel
  simp only [semSignalWord, semWaitWord, Prog.lift, Prog.bind_op, Prog.bind_ret, Prog.pure_eq_ret, wp_deviceId]
  iintro H Hk
  iapply (step_send X K c (phase1 c) [] [] [(1, 3), (0, 3), (2, 2), (1, 2), (0, 2), (2, 1), (1, 1), (0, 1), (2, 0), (1, 0), (0, 0)] [] [3, 2, 1, 0] [] [(0, 0), (1, 0), (2, 0), (0, 1), (1, 1), (2, 1), (0, 2), (1, 2), (2, 2), (0, 3), (1, 3), (2, 3)] [] (2, 3) _ (dev15 c)) $$ H
  iintro H
  rw [show owed c [] = 0 from rfl]
  iapply (step_recv X K c (phase1 c) [] [] [(2, 3), (1, 3), (0, 3), (2, 2), (1, 2), (0, 2), (2, 1), (1, 1), (0, 1), (2, 0), (1, 0), (0, 0)] [] [3, 2, 1, 0] [] [(1, 0), (2, 0), (0, 1), (1, 1), (2, 1), (0, 2), (1, 2), (2, 2), (0, 3), (1, 3), (2, 3)] [] (0, 0)) $$ H
  iintro H
  unfold runs
  rw [wp_ret]; imodintro; iapply Hk; iexact H

theorem part16 (v2 : BitVec 32) (v5 : BitVec 32) (v8 : BitVec 32) (v507 : BitVec 32) (v509 : BitVec 32) {Q : (Σ' (v539 : BitVec 32), BitVec 32) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(1, 0), (2, 0), (0, 1), (1, 1), (2, 1), (0, 2), (1, 2), (2, 2), (0, 3), (1, 3), (2, 3)] [(0, 0)]
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(2, 0), (0, 1), (1, 1), (2, 1), (0, 2), (1, 2), (2, 2), (0, 3), (1, 3), (2, 3)] [(1, 0), (0, 0)] -∗ Q r)
        -∗ runs c (k0_part16 qM h0 kM h1 vM h2 oM h3 locM h4 commM h5 cc0_scratch2 cc0_scratch3 v2 v5 v8 v507 v509) Q) := by
  unfold runs
  simp only [k0_part16_eq_skeleton]; unfold k0_part16_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(2, 0), (0, 1), (1, 1), (2, 1), (0, 2), (1, 2), (2, 2), (0, 3), (1, 3), (2, 3)] [(0, 0)] (1, 0)) $$ H
  iintro H
  unfold runs
  rw [wp_ret]; imodintro; iapply Hk; iexact H

theorem part17 (v2 : BitVec 32) (v5 : BitVec 32) (v8 : BitVec 32) (v539 : BitVec 32) (c16_i32_382 : BitVec 32) {Q : (PUnit) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(2, 0), (0, 1), (1, 1), (2, 1), (0, 2), (1, 2), (2, 2), (0, 3), (1, 3), (2, 3)] [(1, 0), (0, 0)]
      ⊢ iprop((St X K c 0 (phase1 c) [] [] [(2, 3), (1, 3), (0, 3), (2, 2), (1, 2), (0, 2), (2, 1), (1, 1), (0, 1), (2, 0), (1, 0), (0, 0)] [] [3, 2, 1, 0] [] [(0, 1), (1, 1), (2, 1), (0, 2), (1, 2), (2, 2), (0, 3), (1, 3), (2, 3)] [(2, 0), (1, 0), (0, 0)] -∗ Q ⟨⟩)
        -∗ runs c (k0_part17 qM h0 kM h1 vM h2 oM h3 locM h4 commM h5 cc0_scratch2 cc0_scratch3 v2 v5 v8 v539 c16_i32_382) Q) := by
  unfold runs
  simp only [k0_part17_eq_skeleton]; unfold k0_part17_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(0, 1), (1, 1), (2, 1), (0, 2), (1, 2), (2, 2), (0, 3), (1, 3), (2, 3)] [(1, 0), (0, 0)] (2, 0)) $$ H
  iintro H
  unfold runs
  rw [wp_ret]; imodintro; iapply Hk; iexact H

theorem part18 (v2 : BitVec 32) (v5 : BitVec 32) (v8 : BitVec 32) {Q : (Σ' (v597 : BitVec 32) (v598 : BitVec 32) (v599 : BitVec 1), BitVec 1) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(0, 1), (1, 1), (2, 1), (0, 2), (1, 2), (2, 2), (0, 3), (1, 3), (2, 3)] [(2, 0), (1, 0), (0, 0)]
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(2, 1), (0, 2), (1, 2), (2, 2), (0, 3), (1, 3), (2, 3)] [(1, 1), (0, 1), (2, 0), (1, 0), (0, 0)] -∗ Q r)
        -∗ runs c (k0_part18 qM h0 kM h1 vM h2 oM h3 locM h4 commM h5 cc0_scratch2 cc0_scratch3 v2 v5 v8) Q) := by
  unfold runs
  simp only [k0_part18_eq_skeleton]; unfold k0_part18_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(1, 1), (2, 1), (0, 2), (1, 2), (2, 2), (0, 3), (1, 3), (2, 3)] [(2, 0), (1, 0), (0, 0)] (0, 1)) $$ H
  iintro H
  iapply (step_recv X K c (phase1 c) [] [] [(2, 3), (1, 3), (0, 3), (2, 2), (1, 2), (0, 2), (2, 1), (1, 1), (0, 1), (2, 0), (1, 0), (0, 0)] [] [3, 2, 1, 0] [] [(2, 1), (0, 2), (1, 2), (2, 2), (0, 3), (1, 3), (2, 3)] [(0, 1), (2, 0), (1, 0), (0, 0)] (1, 1)) $$ H
  iintro H
  unfold runs
  rw [wp_ret]; imodintro; iapply Hk; iexact H

theorem part19 (v2 : BitVec 32) (v5 : BitVec 32) (v8 : BitVec 32) (v597 : BitVec 32) (v598 : BitVec 32) (v599 : BitVec 1) (v602 : BitVec 1) {Q : (Σ' (v631 : BitVec 32), BitVec 32) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(2, 1), (0, 2), (1, 2), (2, 2), (0, 3), (1, 3), (2, 3)] [(1, 1), (0, 1), (2, 0), (1, 0), (0, 0)]
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(0, 2), (1, 2), (2, 2), (0, 3), (1, 3), (2, 3)] [(2, 1), (1, 1), (0, 1), (2, 0), (1, 0), (0, 0)] -∗ Q r)
        -∗ runs c (k0_part19 qM h0 kM h1 vM h2 oM h3 locM h4 commM h5 cc0_scratch2 cc0_scratch3 v2 v5 v8 v597 v598 v599 v602) Q) := by
  unfold runs
  simp only [k0_part19_eq_skeleton]; unfold k0_part19_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(0, 2), (1, 2), (2, 2), (0, 3), (1, 3), (2, 3)] [(1, 1), (0, 1), (2, 0), (1, 0), (0, 0)] (2, 1)) $$ H
  iintro H
  unfold runs
  rw [wp_ret]; imodintro; iapply Hk; iexact H

theorem part20 (v2 : BitVec 32) (v5 : BitVec 32) (v8 : BitVec 32) (v631 : BitVec 32) (v632 : BitVec 32) {Q : (Σ' (v661 : BitVec 32) (c4_i32_491 : BitVec 32) (v662 : BitVec 1), BitVec 32) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(0, 2), (1, 2), (2, 2), (0, 3), (1, 3), (2, 3)] [(2, 1), (1, 1), (0, 1), (2, 0), (1, 0), (0, 0)]
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(2, 2), (0, 3), (1, 3), (2, 3)] [(1, 2), (0, 2), (2, 1), (1, 1), (0, 1), (2, 0), (1, 0), (0, 0)] -∗ Q r)
        -∗ runs c (k0_part20 qM h0 kM h1 vM h2 oM h3 locM h4 commM h5 cc0_scratch2 cc0_scratch3 v2 v5 v8 v631 v632) Q) := by
  unfold runs
  simp only [k0_part20_eq_skeleton]; unfold k0_part20_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(1, 2), (2, 2), (0, 3), (1, 3), (2, 3)] [(2, 1), (1, 1), (0, 1), (2, 0), (1, 0), (0, 0)] (0, 2)) $$ H
  iintro H
  iapply (step_recv X K c (phase1 c) [] [] [(2, 3), (1, 3), (0, 3), (2, 2), (1, 2), (0, 2), (2, 1), (1, 1), (0, 1), (2, 0), (1, 0), (0, 0)] [] [3, 2, 1, 0] [] [(2, 2), (0, 3), (1, 3), (2, 3)] [(0, 2), (2, 1), (1, 1), (0, 1), (2, 0), (1, 0), (0, 0)] (1, 2)) $$ H
  iintro H
  unfold runs
  rw [wp_ret]; imodintro; iapply Hk; iexact H

theorem part21 (v2 : BitVec 32) (v5 : BitVec 32) (v8 : BitVec 32) (v661 : BitVec 32) (c4_i32_491 : BitVec 32) (v662 : BitVec 1) (c1_i32_493 : BitVec 32) {Q : (BitVec 32) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(2, 2), (0, 3), (1, 3), (2, 3)] [(1, 2), (0, 2), (2, 1), (1, 1), (0, 1), (2, 0), (1, 0), (0, 0)]
      ⊢ iprop((∀ r, St X K c 0 (phase1 c) [] [] [(2, 3), (1, 3), (0, 3), (2, 2), (1, 2), (0, 2), (2, 1), (1, 1), (0, 1), (2, 0), (1, 0), (0, 0)] [] [3, 2, 1, 0] [] [(0, 3), (1, 3), (2, 3)] [(2, 2), (1, 2), (0, 2), (2, 1), (1, 1), (0, 1), (2, 0), (1, 0), (0, 0)] -∗ Q r)
        -∗ runs c (k0_part21 qM h0 kM h1 vM h2 oM h3 locM h4 commM h5 cc0_scratch2 cc0_scratch3 v2 v5 v8 v661 c4_i32_491 v662 c1_i32_493) Q) := by
  unfold runs
  simp only [k0_part21_eq_skeleton]; unfold k0_part21_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(0, 3), (1, 3), (2, 3)] [(1, 2), (0, 2), (2, 1), (1, 1), (0, 1), (2, 0), (1, 0), (0, 0)] (2, 2)) $$ H
  iintro H
  unfold runs
  rw [wp_ret]; imodintro; iapply Hk; iexact H

theorem part22 (v2 : BitVec 32) (v5 : BitVec 32) (v8 : BitVec 32) (v693 : BitVec 32) {Q : (PUnit) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(0, 3), (1, 3), (2, 3)] [(2, 2), (1, 2), (0, 2), (2, 1), (1, 1), (0, 1), (2, 0), (1, 0), (0, 0)]
      ⊢ iprop((St X K c 0 (phase1 c) [] [] [(2, 3), (1, 3), (0, 3), (2, 2), (1, 2), (0, 2), (2, 1), (1, 1), (0, 1), (2, 0), (1, 0), (0, 0)] [] [3, 2, 1, 0] [] [(1, 3), (2, 3)] [(0, 3), (2, 2), (1, 2), (0, 2), (2, 1), (1, 1), (0, 1), (2, 0), (1, 0), (0, 0)] -∗ Q ⟨⟩)
        -∗ runs c (k0_part22 qM h0 kM h1 vM h2 oM h3 locM h4 commM h5 cc0_scratch2 cc0_scratch3 v2 v5 v8 v693) Q) := by
  unfold runs
  simp only [k0_part22_eq_skeleton]; unfold k0_part22_skel
  simp only [semSignalWord, semWaitWord, Prog.lift, Prog.bind_op, Prog.bind_ret, Prog.pure_eq_ret, wp_deviceId]
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(1, 3), (2, 3)] [(2, 2), (1, 2), (0, 2), (2, 1), (1, 1), (0, 1), (2, 0), (1, 0), (0, 0)] (0, 3)) $$ H
  iintro H
  unfold runs
  rw [wp_ret]; imodintro; iapply Hk; iexact H

end Cert.KernelIdealRun

end
-- ==== Proof.IEnd.lean ====
/-
  After the last landing: the buffers whole again, the reads of the landed parts, the result's store, and the cells closed.
-/
module

public import proofs.«01_k».proof.Proof.IRun

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (X : Dev nD → Ins F) (K : GSem nD τ sig → ℕ)

/-! ## What the kernel reads of the landed parts, and what it stores -/

theorem inb_col (n : ℕ) (h : n < 66) (s : Fin 3) : ∀ a, (![s.val, 0, n] : Fin 3 → ℕ) a + S1x64x1.size a ≤ S3x64x66.size a := by
  have := s.isLt
  intro a
  match a with
  | ⟨0, _⟩ => show s.val + 1 ≤ 3; omega
  | ⟨1, _⟩ => show 0 + 64 ≤ 64; omega
  | ⟨2, _⟩ => show n + 1 ≤ 66; omega
theorem inb_num (s : Fin 3) : ∀ a, (![s.val, 0, 0] : Fin 3 → ℕ) a + S1x64x64.size a ≤ S3x64x66.size a := by
  revert s; decide

/-- A slot's maxima, sums and weighted values. -/
def maxAt (c : Dev nD) (s : Fin 3) : Vec F S1x64x1 .f32 :=
  fun y => commF X c ((Rect.unit (s := S3x64x66) ![s.val, 0, 64] S1x64x1.size (inb_col 64 (by decide) s)).emb y)
def sumAt (c : Dev nD) (s : Fin 3) : Vec F S1x64x1 .f32 :=
  fun y => commF X c ((Rect.unit (s := S3x64x66) ![s.val, 0, 65] S1x64x1.size (inb_col 65 (by decide) s)).emb y)
def numAt (c : Dev nD) (s : Fin 3) : Vec F S1x64x64 .f32 :=
  fun y => commF X c ((Rect.unit (s := S3x64x66) ![s.val, 0, 0] S1x64x64.size (inb_num s)).emb y)

/-- The maximum of the device's own and the first landed part, and of all four. -/
def max2 (c : Dev nD) : FVec F S64x1 .f32 := k0_pay8 (locF (X c)) (maxAt X c 0)
def max4 (c : Dev nD) : FVec F S64x1 .f32 := k0_pay9 (max2 X c) (maxAt X c 1) (maxAt X c 2)
/-- The first three parts' weighted values and sums, brought to the common maximum. -/
def num3 (c : Dev nD) : FVec F S64x64 .f32 :=
  k0_pay13 (locF (X c)) (k0_pay7 (locF (X c))) (max2 X c) (maxAt X c 1) (maxAt X c 2) (maxAt X c 0) (numAt X c 0) (maxAt X c 1) (numAt X c 1)
def sum3 (c : Dev nD) : FVec F S64x1 .f32 :=
  k0_pay14 (locF (X c)) (k0_pay7 (locF (X c))) (max2 X c) (maxAt X c 1) (maxAt X c 2) (maxAt X c 0) (sumAt X c 0) (maxAt X c 1) (sumAt X c 1)
/-- What the kernel stores. -/
def outF (c : Dev nD) : Vec F S64x64 .f32 :=
  k0_pay15 (max4 X c) (num3 X c) (sum3 X c) (maxAt X c 2) (numAt X c 2) (sumAt X c 2)

/-! ## The phases after the last landing -/

abbrev locP (c : Dev nD) (q : PosShare TreeShare) (f : Vec F S64x66 .f32) : sProp 𝕄 := (c : Thread nD τ).loc cc0_scratch0 ↦{q} f
abbrev commP (c : Dev nD) (f : Vec F S3x64x66 .f32) : sProp 𝕄 := (c : Thread nD τ).loc cc0_scratch1 ↦{fullShare} f
def held2 (c : Dev nD) : sProp 𝕄 := iprop(locP c (lf 3) (locF (X c)) ∗ commP c (commF X c))
def outP (c : Dev nD) : sProp 𝕄 := (c : Thread nD τ).loc cc0_stg3_0 ↦{fullShare} outF X c
def sendAt (c : Dev nD) (p : P) : sProp 𝕄 := atPos ER (sendCell c p) (0 + 1) ∅ 0
def recvAt (c : Dev nD) (p : P) : sProp 𝕄 := atPos ER (recvCell c p) (0 + 1) ∅ 0
def phase2 (c : Dev nD) (B : sProp (MT nD τ sig Unit (Elt F) ℕ UU ℕ)) : sProp 𝕄 :=
  iprop(held2 X c ∗ B ∗ atPos ER (barCell c) (0 + 1) ∅ 0 ∗ sepL (recvAt c) order)

omit [FloatOps F] in
theorem sepL_sep {I : Type} (Φ Ψ : I → sProp (MT nD τ sig Unit (Elt F) ℕ UU ℕ)) :
    ∀ l : List I, sepL (fun i => iprop(Φ i ∗ Ψ i)) l ⊢ iprop(sepL Φ l ∗ sepL Ψ l)
  | [] => by rw [sepL_nil, sepL_nil, sepL_nil]; iintro H; isplitr <;> iempintro
  | i :: l => by
    rw [sepL_cons, sepL_cons, sepL_cons]
    iintro ⟨⟨H1, H2⟩, H⟩
    ihave H := (sepL_sep Φ Ψ l) $$ H
    icases H with ⟨H3, H4⟩
    isplitl [H1 H3]
    · isplitl [H1] <;> iassumption
    · isplitl [H2] <;> iassumption

variable (c : Dev nD)

omit [FloatOps F] in
/-- The partial result held by groups is held whole. -/
theorem rows_whole (q : PosShare TreeShare) (f : Vec F S64x66 .f32) :
    (bigSep Finset.univ fun g : Fin 4 => rowsP c g q f) = (locP c q f : sProp 𝕄) :=
  (Ring.pointsTo_blocks (ℓ := (c : Thread nD τ).loc cc0_scratch0) (q := q) rowsI rows_disjoint rows_cover f).symm

omit [FloatOps F] in
/-- The landing buffer held by slabs is held whole. -/
theorem slabs_whole (f : Vec F S3x64x66 .f32) :
    (bigSep Finset.univ fun p : P => slabP c p f) = (commP c f : sProp 𝕄) :=
  (Ring.pointsTo_blocks (ℓ := (c : Thread nD τ).loc cc0_scratch1) (q := fullShare) slabI slab_disjoint slab_cover f).symm

theorem kept_whole (kept : List (Fin 4)) (h : kept.Nodup) (e : kept.toFinset = Finset.univ) :
    sepL (keep X c) kept = locP c (lf 3) (locF (X c)) := by
  rw [sepL_univ (keep X c) kept h e]; exact rows_whole c _ _

theorem got_whole (got : List P) (h : got.Nodup) (e : got.toFinset = Finset.univ) :
    sepL (recvGot X c) got ⊢ iprop(commP c (commF X c) ∗ sepL (recvAt c) order) := by
  refine (sepL_sep (recvPay X c) (recvAt c) got).trans ?_
  rw [sepL_univ (recvPay X c) got h e, sepL_perm (recvAt c) got order h (by decide) (by rw [e]; decide)]
  rw [show (bigSep Finset.univ (recvPay X c)) = commP c (commF X c) from slabs_whole c (commF X c)]

theorem sent_whole (sgot : List P) (h : sgot.Nodup) (e : sgot.toFinset = Finset.univ) :
    sepL (sendGot X c) sgot ⊢ iprop((locP c (lf 0) (locF (X c)) ∗ locP c (lf 1) (locF (X c)) ∗ locP c (lf 2) (locF (X c))) ∗ sepL (sendAt c) order) := by
  refine (sepL_sep (sendPay X c) (sendAt c) sgot).trans ?_
  rw [sepL_univ (sendPay X c) sgot h e, sepL_perm (sendAt c) sgot order h (by decide) (by rw [e]; decide)]
  have e1 : bigSep Finset.univ (sendPay X c)
      = bigSep Finset.univ fun s : Fin 3 => locP c (lf s.castSucc) (locF (X c)) := by
    refine (bigSep_univ_prod (sendPay X c)).trans (bigSep_congr fun s _ => ?_)
    exact rows_whole c (lf s.castSucc) (locF (X c))
  rw [e1, bigSep_univ_eq_bigSepL (I := Fin 3) [0, 1, 2] (by decide) (by decide)]
  exact BIBase.Entails.rfl

section Steps
variable {α : Type} {Q : α → sProp (MT nD τ sig Unit (Elt F) ℕ UU ℕ)}
variable (B : sProp (MT nD τ sig Unit (Elt F) ℕ UU ℕ))
variable (todo pend made sgot : List P) (kept rest : List (Fin 4)) (due got : List P)

/-- All landed: the two buffers whole, the sends reordered as they were made. -/
theorem settle (h1 : kept.Nodup) (e1 : kept.toFinset = Finset.univ) (h2 : got.Nodup) (e2 : got.toFinset = Finset.univ)
    (h3 : made.Nodup) (e3 : made.toFinset = order.toFinset) :
    St X K c 0 (phase1 c) [] [] made [] kept [] [] got ⊢ St X K c 0 (phase2 X c (outAny c)) [] [] order [] [] [] [] [] := by
  unfold St phase1 phase2 held2
  rw [kept_whole X c kept h1 e1, sepL_perm (sendCred c) made order h3 (by decide) e3]
  iintro ⟨HI, HO, ⟨Hat, Hout⟩, Htodo, Hpend, Hmade, Hsgot, Hkept, Hrest, Hdue, Hgot, Hins⟩
  ihave Hgot := (got_whole X c got h2 e2) $$ Hgot
  icases Hgot with ⟨Hc, Hr⟩
  isplitl [HI]; · iexact HI
  isplitl [HO]; · iexact HO
  isplitl [Hat Hout Hkept Hc Hr]
  · isplitl [Hkept Hc]; · isplitl [Hkept] <;> iassumption
    isplitl [Hout]; · iexact Hout
    isplitl [Hat] <;> iassumption
  isplitl [Htodo]; · iexact Htodo
  isplitl [Hpend]; · iexact Hpend
  isplitl [Hmade]; · iexact Hmade
  isplitl [Hsgot]; · iexact Hsgot
  isplitr; · rw [sepL_nil]; iempintro
  isplitl [Hrest]; · iexact Hrest
  isplitl [Hdue]; · iexact Hdue
  isplitr; · rw [sepL_nil]; iempintro
  iexact Hins

theorem focus_held :
    St X K c 0 (phase2 X c B) todo pend made sgot kept rest due got
      ⊢ iprop(held2 X c ∗ (held2 X c -∗ St X K c 0 (phase2 X c B) todo pend made sgot kept rest due got)) := by
  unfold St phase2
  iintro ⟨HI, HO, ⟨Hh, HB⟩, Hr⟩
  isplitl [Hh]; · iexact Hh
  iintro Hh
  isplitl [HI]; · iexact HI
  isplitl [HO]; · iexact HO
  isplitl [Hh HB]; · isplitl [Hh] <;> iassumption
  iexact Hr

theorem focus_out :
    St X K c 0 (phase2 X c B) todo pend made sgot kept rest due got
      ⊢ iprop(B ∗ (∀ B', B' -∗ St X K c 0 (phase2 X c B') todo pend made sgot kept rest due got)) := by
  unfold St phase2
  iintro ⟨HI, HO, ⟨Hh, HB, HA⟩, Hr⟩
  isplitl [HB]; · iexact HB
  iintro %B' HB
  isplitl [HI]; · iexact HI
  isplitl [HO]; · iexact HO
  isplitl [Hh HB HA]
  · isplitl [Hh]; · iexact Hh
    isplitl [HB] <;> iassumption
  iexact Hr

theorem zero2 : (![0, 0] : Fin 2 → ℕ) = fun _ => 0 := by funext a; match a with | ⟨0, _⟩ => rfl | ⟨1, _⟩ => rfl

omit [FloatOps F] in
theorem loc_read (f : Vec F S64x66 .f32) :
    (locM.access (Rect.unit (s := S64x66) ![0, 0] S64x66.size inb_S64x66_S64x66_0_0)).read (Elt F) f = f :=
  Memref.read_access_unit_zero (Elt F) cc0_scratch0 zero2 _ f
omit [FloatOps F] in
theorem out_write (f w : Vec F S64x64 .f32) :
    (oM.access (Rect.unit (s := S64x64) ![0, 0] S64x64.size inb_S64x64_S64x64_0_0)).write (Elt F) f w Finset.univ = w :=
  Memref.write_access_unit_zero_univ (Elt F) cc0_stg3_0 zero2 _ f w

/-- The load of the device's own part. -/
theorem step_loc {hl : locM.view.LoadsAt (Rect.unit (s := S64x66) ![0, 0] S64x66.size inb_S64x66_S64x66_0_0).toLoadRect}
    {k : Vec F S64x66 .f32 → Prog (TpuEff nD τ sig (Elt F) Λ₀ .tc) α} :
    St X K c 0 (phase2 X c B) todo pend made sgot kept rest due got
      ⊢ iprop((St X K c 0 (phase2 X c B) todo pend made sgot kept rest due got -∗ runs c (k (locF (X c))) Q)
          -∗ runs c (.op (.load locM (Rect.unit (s := S64x66) ![0, 0] S64x66.size inb_S64x66_S64x66_0_0).toLoadRect hl) k) Q) := by
  refine (focus_held X K c B todo pend made sgot kept rest due got).trans ?_
  unfold held2
  iintro ⟨⟨Hl, Hc⟩, Hback⟩ Hk
  iapply (wp_load_rect (defs := defs₀ (F := F)) 𝒱₀ (c : Thread nD τ) none Set.univ (m := locM) (r := Rect.unit (s := S64x66) ![0, 0] S64x66.size inb_S64x66_S64x66_0_0)
    (S := Finset.univ) (f := locF (X c)) (hl := hl) (k := k) (Finset.subset_univ _)) $$ Hl
  iintro Hl
  rw [loc_read]
  iapply Hk
  iapply Hback
  isplitl [Hl] <;> iassumption

/-- A load of the landing buffer. -/
theorem step_comm (r : Rect S3x64x66) {hl : commM.view.LoadsAt r.toLoadRect}
    {k : Vec F r.shape .f32 → Prog (TpuEff nD τ sig (Elt F) Λ₀ .tc) α} :
    St X K c 0 (phase2 X c B) todo pend made sgot kept rest due got
      ⊢ iprop((St X K c 0 (phase2 X c B) todo pend made sgot kept rest due got -∗ runs c (k (fun y => commF X c (r.emb y))) Q)
          -∗ runs c (.op (.load commM r.toLoadRect hl) k) Q) := by
  refine (focus_held X K c B todo pend made sgot kept rest due got).trans ?_
  unfold held2
  iintro ⟨⟨Hl, Hc⟩, Hback⟩ Hk
  iapply (wp_load_rect (defs := defs₀ (F := F)) 𝒱₀ (c : Thread nD τ) none Set.univ (m := commM) (r := r)
    (S := Finset.univ) (f := commF X c) (hl := hl) (k := k) (Finset.subset_univ _)) $$ Hc
  iintro Hc
  iapply Hk
  iapply Hback
  isplitl [Hl] <;> iassumption

theorem step_max (s : Fin 3) {hl : commM.view.LoadsAt (Rect.unit (s := S3x64x66) ![s.val, 0, 64] S1x64x1.size (inb_col 64 (by decide) s)).toLoadRect}
    {k : Vec F S1x64x1 .f32 → Prog (TpuEff nD τ sig (Elt F) Λ₀ .tc) α} :
    St X K c 0 (phase2 X c B) todo pend made sgot kept rest due got
      ⊢ iprop((St X K c 0 (phase2 X c B) todo pend made sgot kept rest due got -∗ runs c (k (maxAt X c s)) Q)
          -∗ runs c (.op (.load commM (Rect.unit (s := S3x64x66) ![s.val, 0, 64] S1x64x1.size (inb_col 64 (by decide) s)).toLoadRect hl) k) Q) :=
  step_comm X K c B todo pend made sgot kept rest due got (Rect.unit (s := S3x64x66) ![s.val, 0, 64] S1x64x1.size (inb_col 64 (by decide) s)) (hl := hl) (k := k)
theorem step_sum (s : Fin 3) {hl : commM.view.LoadsAt (Rect.unit (s := S3x64x66) ![s.val, 0, 65] S1x64x1.size (inb_col 65 (by decide) s)).toLoadRect}
    {k : Vec F S1x64x1 .f32 → Prog (TpuEff nD τ sig (Elt F) Λ₀ .tc) α} :
    St X K c 0 (phase2 X c B) todo pend made sgot kept rest due got
      ⊢ iprop((St X K c 0 (phase2 X c B) todo pend made sgot kept rest due got -∗ runs c (k (sumAt X c s)) Q)
          -∗ runs c (.op (.load commM (Rect.unit (s := S3x64x66) ![s.val, 0, 65] S1x64x1.size (inb_col 65 (by decide) s)).toLoadRect hl) k) Q) :=
  step_comm X K c B todo pend made sgot kept rest due got (Rect.unit (s := S3x64x66) ![s.val, 0, 65] S1x64x1.size (inb_col 65 (by decide) s)) (hl := hl) (k := k)
theorem step_num (s : Fin 3) {hl : commM.view.LoadsAt (Rect.unit (s := S3x64x66) ![s.val, 0, 0] S1x64x64.size (inb_num s)).toLoadRect}
    {k : Vec F S1x64x64 .f32 → Prog (TpuEff nD τ sig (Elt F) Λ₀ .tc) α} :
    St X K c 0 (phase2 X c B) todo pend made sgot kept rest due got
      ⊢ iprop((St X K c 0 (phase2 X c B) todo pend made sgot kept rest due got -∗ runs c (k (numAt X c s)) Q)
          -∗ runs c (.op (.load commM (Rect.unit (s := S3x64x66) ![s.val, 0, 0] S1x64x64.size (inb_num s)).toLoadRect hl) k) Q) :=
  step_comm X K c B todo pend made sgot kept rest due got (Rect.unit (s := S3x64x66) ![s.val, 0, 0] S1x64x64.size (inb_num s)) (hl := hl) (k := k)

/-- A load of the result before it is stored; nothing reads what it gives. -/
theorem step_peek_out {hl : oM.view.LoadsAt (Rect.unit (s := S64x64) ![0, 0] S64x64.size inb_S64x64_S64x64_0_0).toLoadRect}
    {k : Vec F S64x64 .f32 → Prog (TpuEff nD τ sig (Elt F) Λ₀ .tc) α} :
    St X K c 0 (phase2 X c (outAny c)) todo pend made sgot kept rest due got
      ⊢ iprop((∀ w, St X K c 0 (phase2 X c (outAny c)) todo pend made sgot kept rest due got -∗ runs c (k w) Q)
          -∗ runs c (.op (.load oM (Rect.unit (s := S64x64) ![0, 0] S64x64.size inb_S64x64_S64x64_0_0).toLoadRect hl) k) Q) := by
  refine (focus_out X K c (outAny c) todo pend made sgot kept rest due got).trans ?_
  unfold outAny
  iintro ⟨⟨%f, Ho⟩, Hback⟩ Hk
  iapply (wp_load_rect (defs := defs₀ (F := F)) 𝒱₀ (c : Thread nD τ) none Set.univ (m := oM) (r := Rect.unit (s := S64x64) ![0, 0] S64x64.size inb_S64x64_S64x64_0_0)
    (S := Finset.univ) (f := f) (hl := hl) (k := k) (Finset.subset_univ _)) $$ Ho
  iintro Ho
  iapply Hk
  iapply Hback
  iexists f; iexact Ho

/-- The result's store. -/
theorem step_out (w : Vec F S64x64 .f32) (hw : w = outF X c)
    {hx : (oM.access (Rect.unit (s := S64x64) ![0, 0] S64x64.size inb_S64x64_S64x64_0_0)).Stores Finset.univ}
    {hm : (Finset.univ : Finset (Rect.unit (s := S64x64) ![0, 0] S64x64.size inb_S64x64_S64x64_0_0).shape.Idx) = Finset.univ ∨ ∀ a, (Rect.unit (s := S64x64) ![0, 0] S64x64.size inb_S64x64_S64x64_0_0).stride a = 1}
    {k : PUnit → Prog (TpuEff nD τ sig (Elt F) Λ₀ .tc) α} :
    St X K c 0 (phase2 X c (outAny c)) todo pend made sgot kept rest due got
      ⊢ iprop((St X K c 0 (phase2 X c (outP X c)) todo pend made sgot kept rest due got -∗ runs c (k ⟨⟩) Q)
          -∗ runs c (.op (.store oM (Rect.unit (s := S64x64) ![0, 0] S64x64.size inb_S64x64_S64x64_0_0) w Finset.univ hx hm) k) Q) := by
  subst hw
  refine (focus_out X K c (outAny c) todo pend made sgot kept rest due got).trans ?_
  unfold outAny
  iintro ⟨⟨%f, Ho⟩, Hback⟩ Hk
  iapply (wp_store (defs := defs₀ (F := F)) 𝒱₀ (c : Thread nD τ) none Set.univ (m := oM) (r := Rect.unit (s := S64x64) ![0, 0] S64x64.size inb_S64x64_S64x64_0_0) (S := Finset.univ) (f := f)
    (w := outF X c) (Mk := Finset.univ) (hx := hx) (hm := hm) (k := k) (Finset.subset_univ _)) $$ Ho
  iintro Ho
  rw [out_write]
  iapply Hk
  iapply Hback
  unfold outP
  iexact Ho

end Steps

/-! ## The cells closed -/

theorem close_send : ∀ l : List P, iprop(invs X K ∗ sepL (sendAt c) l) ⊢ iprop(|={Set.univ}=> sepL (fun p => (semVal (sendCell c p) 0 : sProp 𝕄)) l)
  | [] => by rw [sepL_nil, sepL_nil]; iintro ⟨-, H⟩; imodintro; iexact H
  | p :: l => by
    rw [sepL_cons, sepL_cons]
    iintro ⟨#HI, Hp, Hl⟩
    unfold sendAt
    imod (Rounds.cell_close ER (Rd X) (Set.mem_univ (K (sendCell c p))) (fun h => h) (R := 0 + 1) (duties_later X (sendCell c p))) $$ [Hp] with Hz
    · isplitr; · iapply (inv_send X K c p); iexact HI
      iexact Hp
    imod (close_send l) $$ [Hl] with Hzs
    · isplitr; · iexact HI
      iexact Hl
    imodintro
    isplitl [Hz] <;> iassumption
theorem close_recv : ∀ l : List P, iprop(invs X K ∗ sepL (recvAt c) l) ⊢ iprop(|={Set.univ}=> sepL (fun p => (semVal (recvCell c p) 0 : sProp 𝕄)) l)
  | [] => by rw [sepL_nil, sepL_nil]; iintro ⟨-, H⟩; imodintro; iexact H
  | p :: l => by
    rw [sepL_cons, sepL_cons]
    iintro ⟨#HI, Hp, Hl⟩
    unfold recvAt
    imod (Rounds.cell_close ER (Rd X) (Set.mem_univ (K (recvCell c p))) (fun h => h) (R := 0 + 1) (duties_later X (recvCell c p))) $$ [Hp] with Hz
    · isplitr; · iapply (inv_recv X K c p); iexact HI
      iexact Hp
    imod (close_recv l) $$ [Hl] with Hzs
    · isplitr; · iexact HI
      iexact Hl
    imodintro
    isplitl [Hz] <;> iassumption

/-- What the body leaves. -/
def bodyPost (c : Dev nD) : sProp 𝕄 :=
  iprop((∃ W, owes (c : Thread nD τ) 0 W) ∗ insP X c ∗ outP X c
    ∗ ((∃ f, (c : Thread nD τ).loc cc0_scratch0 ↦{fullShare} f) ∗ (∃ f, (c : Thread nD τ).loc cc0_scratch1 ↦{fullShare} f))
    ∗ semVal (barCell c) 0 ∗ sepL (fun p => semVal (sendCell c p) 0) order ∗ sepL (fun p => semVal (recvCell c p) 0) order)

theorem finish (sgot : List P) (h : sgot.Nodup) (e : sgot.toFinset = Finset.univ) :
    St X K c 0 (phase2 X c (outP X c)) [] [] [] sgot [] [] [] [] ⊢ iprop(|={Set.univ}=> bodyPost X c) := by
  unfold St phase2 held2 bodyPost
  iintro ⟨#HI, HO, ⟨⟨Hl3, Hc⟩, Hout, Hb, Hr⟩, -, -, -, Hs, -, -, -, -, Hins⟩
  ihave Hs := (sent_whole X c sgot h e) $$ Hs
  icases Hs with ⟨⟨Hl0, Hl1, Hl2⟩, Hs⟩
  imod (Rounds.cell_close ER (Rd X) (Set.mem_univ (K (barCell c))) (fun h => h) (R := 0 + 1) (duties_later X (barCell c))) $$ [Hb] with Hzb
  · isplitr; · iapply (inv_bar X K c); iexact HI
    iexact Hb
  imod (close_send X K c order) $$ [Hs] with Hzs
  · isplitr; · iexact HI
    iexact Hs
  imod (close_recv X K c order) $$ [Hr] with Hzr
  · isplitr; · iexact HI
    iexact Hr
  imodintro
  isplitl [HO]; · iexact HO
  isplitl [Hins]; · iexact Hins
  isplitl [Hout]; · iexact Hout
  isplitl [Hl0 Hl1 Hl2 Hl3 Hc]
  · isplitr [Hc]
    · iexists locF (X c)
      iapply (Entails.of_eq (four_leaves (ℓ := (c : Thread nD τ).loc cc0_scratch0) Finset.univ (locF (X c))).symm)
      isplitl [Hl0]; · iexact Hl0
      isplitl [Hl1]; · iexact Hl1
      isplitl [Hl2] <;> iassumption
    · iexists commF X c; iexact Hc
  isplitl [Hzb]; · iexact Hzb
  isplitl [Hzs] <;> iassumption

end Cert.KernelIdealRun

end
-- ==== Proof.IPartsB.lean ====
/-
  The kernel's last parts, and its body whole.
-/
module

public import proofs.«01_k».proof.Proof.IPartsA
public import proofs.«01_k».proof.Proof.IEnd

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (X : Dev nD → Ins F) (K : GSem nD τ sig → ℕ) (c : Dev nD)
variable (h0 : qM.IsWhole) (h1 : kM.IsWhole) (h2 : vM.IsWhole) (h3 : oM.IsWhole) (h4 : locM.IsWhole) (h5 : commM.IsWhole)

theorem part23 (v2 : BitVec 32) (v5 : BitVec 32) (v8 : BitVec 32) {Q : (Σ' (v749 : Vec F S64x66 .f32) (v750 : FVec F S64x1 .f32) (v753 : FVec F S64x1 .f32), Vec F S1x64x1 .f32) → sProp (MT nD τ sig Unit (Elt F) ℕ UU ℕ)} :
    St X K c 0 (phase1 c) [] [] [(2, 3), (1, 3), (0, 3), (2, 2), (1, 2), (0, 2), (2, 1), (1, 1), (0, 1), (2, 0), (1, 0), (0, 0)] [] [3, 2, 1, 0] [] [(1, 3), (2, 3)] [(0, 3), (2, 2), (1, 2), (0, 2), (2, 1), (1, 1), (0, 1), (2, 0), (1, 0), (0, 0)]
      ⊢ iprop((St X K c 0 (phase2 X c (outAny c)) [] [] [(0, 0), (1, 0), (2, 0), (0, 1), (1, 1), (2, 1), (0, 2), (1, 2), (2, 2), (0, 3), (1, 3), (2, 3)] [] [] [] [] [] -∗ Q ⟨locF (X c), k0_pay7 (locF (X c)), max2 X c, maxAt X c 1⟩)
        -∗ runs c (k0_part23 qM h0 kM h1 vM h2 oM h3 locM h4 commM h5 cc0_scratch2 cc0_scratch3 v2 v5 v8) Q) := by
  unfold runs
  simp only [k0_part23_eq_skeleton]; unfold k0_part23_skel
  simp only [semSignalWord, semWaitWord, Prog.lift, Prog.bind_op, Prog.bind_ret, Prog.pure_eq_ret, wp_deviceId]
  unfold max2
  iintro H Hk
  iapply (step_recv X K c (phase1 c) [] [] [(2, 3), (1, 3), (0, 3), (2, 2), (1, 2), (0, 2), (2, 1), (1, 1), (0, 1), (2, 0), (1, 0), (0, 0)] [] [3, 2, 1, 0] [] [(2, 3)] [(0, 3), (2, 2), (1, 2), (0, 2), (2, 1), (1, 1), (0, 1), (2, 0), (1, 0), (0, 0)] (1, 3)) $$ H
  iintro H
  iapply (step_recv X K c (phase1 c) [] [] [(2, 3), (1, 3), (0, 3), (2, 2), (1, 2), (0, 2), (2, 1), (1, 1), (0, 1), (2, 0), (1, 0), (0, 0)] [] [3, 2, 1, 0] [] [] [(1, 3), (0, 3), (2, 2), (1, 2), (0, 2), (2, 1), (1, 1), (0, 1), (2, 0), (1, 0), (0, 0)] (2, 3)) $$ H
  iintro H
  ihave H := (settle X K c [(2, 3), (1, 3), (0, 3), (2, 2), (1, 2), (0, 2), (2, 1), (1, 1), (0, 1), (2, 0), (1, 0), (0, 0)] [3, 2, 1, 0] [(2, 3), (1, 3), (0, 3), (2, 2), (1, 2), (0, 2), (2, 1), (1, 1), (0, 1), (2, 0), (1, 0), (0, 0)] (by decide) (by decide) (by decide) (by decide) (by decide) (by decide)) $$ H
  iapply (step_loc X K c (outAny c) [] [] [(0, 0), (1, 0), (2, 0), (0, 1), (1, 1), (2, 1), (0, 2), (1, 2), (2, 2), (0, 3), (1, 3), (2, 3)] [] [] [] [] []) $$ H
  iintro H
  iapply (step_max X K c (outAny c) [] [] [(0, 0), (1, 0), (2, 0), (0, 1), (1, 1), (2, 1), (0, 2), (1, 2), (2, 2), (0, 3), (1, 3), (2, 3)] [] [] [] [] [] 0) $$ H
  iintro H
  iapply (step_max X K c (outAny c) [] [] [(0, 0), (1, 0), (2, 0), (0, 1), (1, 1), (2, 1), (0, 2), (1, 2), (2, 2), (0, 3), (1, 3), (2, 3)] [] [] [] [] [] 1) $$ H
  iintro H
  unfold runs
  rw [wp_ret]; imodintro; iapply Hk; iexact H

theorem part24 {Q : (Σ' (v759 : FVec F S64x1 .f32) (v788 : FVec F S64x64 .f32), FVec F S64x1 .f32) → sProp (MT nD τ sig Unit (Elt F) ℕ UU ℕ)} :
    St X K c 0 (phase2 X c (outAny c)) [] [] [(0, 0), (1, 0), (2, 0), (0, 1), (1, 1), (2, 1), (0, 2), (1, 2), (2, 2), (0, 3), (1, 3), (2, 3)] [] [] [] [] []
      ⊢ iprop((St X K c 0 (phase2 X c (outAny c)) [] [] [(0, 0), (1, 0), (2, 0), (0, 1), (1, 1), (2, 1), (0, 2), (1, 2), (2, 2), (0, 3), (1, 3), (2, 3)] [] [] [] [] [] -∗ Q ⟨max4 X c, num3 X c, sum3 X c⟩)
        -∗ runs c (k0_part24 qM h0 kM h1 vM h2 oM h3 locM h4 commM h5 cc0_scratch2 cc0_scratch3 (locF (X c)) (k0_pay7 (locF (X c))) (max2 X c) (maxAt X c 1)) Q) := by
  unfold runs
  simp only [k0_part24_eq_skeleton]; unfold k0_part24_skel
  simp only [semSignalWord, semWaitWord, Prog.lift, Prog.bind_op, Prog.bind_ret, Prog.pure_eq_ret, wp_deviceId]
  unfold max4 num3 sum3
  iintro H Hk
  iapply (step_max X K c (outAny c) [] [] [(0, 0), (1, 0), (2, 0), (0, 1), (1, 1), (2, 1), (0, 2), (1, 2), (2, 2), (0, 3), (1, 3), (2, 3)] [] [] [] [] [] 2) $$ H
  iintro H
  iapply (step_max X K c (outAny c) [] [] [(0, 0), (1, 0), (2, 0), (0, 1), (1, 1), (2, 1), (0, 2), (1, 2), (2, 2), (0, 3), (1, 3), (2, 3)] [] [] [] [] [] 0) $$ H
  iintro H
  iapply (step_num X K c (outAny c) [] [] [(0, 0), (1, 0), (2, 0), (0, 1), (1, 1), (2, 1), (0, 2), (1, 2), (2, 2), (0, 3), (1, 3), (2, 3)] [] [] [] [] [] 0) $$ H
  iintro H
  iapply (step_sum X K c (outAny c) [] [] [(0, 0), (1, 0), (2, 0), (0, 1), (1, 1), (2, 1), (0, 2), (1, 2), (2, 2), (0, 3), (1, 3), (2, 3)] [] [] [] [] [] 0) $$ H
  iintro H
  iapply (step_max X K c (outAny c) [] [] [(0, 0), (1, 0), (2, 0), (0, 1), (1, 1), (2, 1), (0, 2), (1, 2), (2, 2), (0, 3), (1, 3), (2, 3)] [] [] [] [] [] 1) $$ H
  iintro H
  iapply (step_num X K c (outAny c) [] [] [(0, 0), (1, 0), (2, 0), (0, 1), (1, 1), (2, 1), (0, 2), (1, 2), (2, 2), (0, 3), (1, 3), (2, 3)] [] [] [] [] [] 1) $$ H
  iintro H
  iapply (step_sum X K c (outAny c) [] [] [(0, 0), (1, 0), (2, 0), (0, 1), (1, 1), (2, 1), (0, 2), (1, 2), (2, 2), (0, 3), (1, 3), (2, 3)] [] [] [] [] [] 1) $$ H
  iintro H
  unfold runs
  rw [wp_ret]; imodintro; iapply Hk; iexact H

theorem part25 {Q : (PUnit) → sProp (MT nD τ sig Unit (Elt F) ℕ UU ℕ)} :
    St X K c 0 (phase2 X c (outAny c)) [] [] [(0, 0), (1, 0), (2, 0), (0, 1), (1, 1), (2, 1), (0, 2), (1, 2), (2, 2), (0, 3), (1, 3), (2, 3)] [] [] [] [] []
      ⊢ iprop((St X K c 0 (phase2 X c (outP X c)) [] [] [(2, 0), (0, 1), (1, 1), (2, 1), (0, 2), (1, 2), (2, 2), (0, 3), (1, 3), (2, 3)] [(1, 0), (0, 0)] [] [] [] [] -∗ Q ⟨⟩)
        -∗ runs c (k0_part25 qM h0 kM h1 vM h2 oM h3 locM h4 commM h5 cc0_scratch2 cc0_scratch3 (max4 X c) (num3 X c) (sum3 X c)) Q) := by
  unfold runs
  simp only [k0_part25_eq_skeleton]; unfold k0_part25_skel
  simp only [semSignalWord, semWaitWord, Prog.lift, Prog.bind_op, Prog.bind_ret, Prog.pure_eq_ret, wp_deviceId]
  iintro H Hk
  iapply (step_max X K c (outAny c) [] [] [(0, 0), (1, 0), (2, 0), (0, 1), (1, 1), (2, 1), (0, 2), (1, 2), (2, 2), (0, 3), (1, 3), (2, 3)] [] [] [] [] [] 2) $$ H
  iintro H
  iapply (step_num X K c (outAny c) [] [] [(0, 0), (1, 0), (2, 0), (0, 1), (1, 1), (2, 1), (0, 2), (1, 2), (2, 2), (0, 3), (1, 3), (2, 3)] [] [] [] [] [] 2) $$ H
  iintro H
  iapply (step_sum X K c (outAny c) [] [] [(0, 0), (1, 0), (2, 0), (0, 1), (1, 1), (2, 1), (0, 2), (1, 2), (2, 2), (0, 3), (1, 3), (2, 3)] [] [] [] [] [] 2) $$ H
  iintro H
  iapply (step_peek_out X K c [] [] [(0, 0), (1, 0), (2, 0), (0, 1), (1, 1), (2, 1), (0, 2), (1, 2), (2, 2), (0, 3), (1, 3), (2, 3)] [] [] [] [] []) $$ H
  iintro %w H
  iapply (step_out X K c [] [] [(0, 0), (1, 0), (2, 0), (0, 1), (1, 1), (2, 1), (0, 2), (1, 2), (2, 2), (0, 3), (1, 3), (2, 3)] [] [] [] [] [] _ rfl) $$ H
  iintro H
  iapply (step_sent X K c (phase2 X c (outP X c)) [] [] [(1, 0), (2, 0), (0, 1), (1, 1), (2, 1), (0, 2), (1, 2), (2, 2), (0, 3), (1, 3), (2, 3)] [] [] [] [] [] (0, 0)) $$ H
  iintro H
  iapply (step_sent X K c (phase2 X c (outP X c)) [] [] [(2, 0), (0, 1), (1, 1), (2, 1), (0, 2), (1, 2), (2, 2), (0, 3), (1, 3), (2, 3)] [(0, 0)] [] [] [] [] (1, 0)) $$ H
  iintro H
  unfold runs
  rw [wp_ret]; imodintro; iapply Hk; iexact H

theorem part26 {Q : (PUnit) → sProp (MT nD τ sig Unit (Elt F) ℕ UU ℕ)} :
    St X K c 0 (phase2 X c (outP X c)) [] [] [(2, 0), (0, 1), (1, 1), (2, 1), (0, 2), (1, 2), (2, 2), (0, 3), (1, 3), (2, 3)] [(1, 0), (0, 0)] [] [] [] []
      ⊢ iprop((St X K c 0 (phase2 X c (outP X c)) [] [] [(2, 1), (0, 2), (1, 2), (2, 2), (0, 3), (1, 3), (2, 3)] [(1, 1), (0, 1), (2, 0), (1, 0), (0, 0)] [] [] [] [] -∗ Q ⟨⟩)
        -∗ runs c (k0_part26 qM h0 kM h1 vM h2 oM h3 locM h4 commM h5 cc0_scratch2 cc0_scratch3) Q) := by
  unfold runs
  simp only [k0_part26_eq_skeleton]; unfold k0_part26_skel
  simp only [semSignalWord, semWaitWord, Prog.lift, Prog.bind_op, Prog.bind_ret, Prog.pure_eq_ret, wp_deviceId]
  iintro H Hk
  iapply (step_sent X K c (phase2 X c (outP X c)) [] [] [(0, 1), (1, 1), (2, 1), (0, 2), (1, 2), (2, 2), (0, 3), (1, 3), (2, 3)] [(1, 0), (0, 0)] [] [] [] [] (2, 0)) $$ H
  iintro H
  iapply (step_sent X K c (phase2 X c (outP X c)) [] [] [(1, 1), (2, 1), (0, 2), (1, 2), (2, 2), (0, 3), (1, 3), (2, 3)] [(2, 0), (1, 0), (0, 0)] [] [] [] [] (0, 1)) $$ H
  iintro H
  iapply (step_sent X K c (phase2 X c (outP X c)) [] [] [(2, 1), (0, 2), (1, 2), (2, 2), (0, 3), (1, 3), (2, 3)] [(0, 1), (2, 0), (1, 0), (0, 0)] [] [] [] [] (1, 1)) $$ H
  iintro H
  unfold runs
  rw [wp_ret]; imodintro; iapply Hk; iexact H

theorem part27 {Q : (PUnit) → sProp (MT nD τ sig Unit (Elt F) ℕ UU ℕ)} :
    St X K c 0 (phase2 X c (outP X c)) [] [] [(2, 1), (0, 2), (1, 2), (2, 2), (0, 3), (1, 3), (2, 3)] [(1, 1), (0, 1), (2, 0), (1, 0), (0, 0)] [] [] [] []
      ⊢ iprop((St X K c 0 (phase2 X c (outP X c)) [] [] [(0, 3), (1, 3), (2, 3)] [(2, 2), (1, 2), (0, 2), (2, 1), (1, 1), (0, 1), (2, 0), (1, 0), (0, 0)] [] [] [] [] -∗ Q ⟨⟩)
        -∗ runs c (k0_part27 qM h0 kM h1 vM h2 oM h3 locM h4 commM h5 cc0_scratch2 cc0_scratch3) Q) := by
  unfold runs
  simp only [k0_part27_eq_skeleton]; unfold k0_part27_skel
  simp only [semSignalWord, semWaitWord, Prog.lift, Prog.bind_op, Prog.bind_ret, Prog.pure_eq_ret, wp_deviceId]
  iintro H Hk
  iapply (step_sent X K c (phase2 X c (outP X c)) [] [] [(0, 2), (1, 2), (2, 2), (0, 3), (1, 3), (2, 3)] [(1, 1), (0, 1), (2, 0), (1, 0), (0, 0)] [] [] [] [] (2, 1)) $$ H
  iintro H
  iapply (step_sent X K c (phase2 X c (outP X c)) [] [] [(1, 2), (2, 2), (0, 3), (1, 3), (2, 3)] [(2, 1), (1, 1), (0, 1), (2, 0), (1, 0), (0, 0)] [] [] [] [] (0, 2)) $$ H
  iintro H
  iapply (step_sent X K c (phase2 X c (outP X c)) [] [] [(2, 2), (0, 3), (1, 3), (2, 3)] [(0, 2), (2, 1), (1, 1), (0, 1), (2, 0), (1, 0), (0, 0)] [] [] [] [] (1, 2)) $$ H
  iintro H
  iapply (step_sent X K c (phase2 X c (outP X c)) [] [] [(0, 3), (1, 3), (2, 3)] [(1, 2), (0, 2), (2, 1), (1, 1), (0, 1), (2, 0), (1, 0), (0, 0)] [] [] [] [] (2, 2)) $$ H
  iintro H
  unfold runs
  rw [wp_ret]; imodintro; iapply Hk; iexact H

theorem part28 {Q : PUnit → sProp (MT nD τ sig Unit (Elt F) ℕ UU ℕ)} :
    St X K c (owedB c [0, 1, 2]) (phase0 c [0, 1, 2]) [] [] [] [] [] [0, 1, 2, 3] order []
      ⊢ iprop((St X K c 0 (phase2 X c (outP X c)) [] [] [(2, 3)] [(1, 3), (0, 3), (2, 2), (1, 2), (0, 2), (2, 1), (1, 1), (0, 1), (2, 0), (1, 0), (0, 0)] [] [] [] [] -∗ Q ⟨⟩)
        -∗ runs c (k0_part28 qM h0 kM h1 vM h2 oM h3 locM h4 commM h5 cc0_scratch2 cc0_scratch3) Q) := by
  unfold runs
  simp only [k0_part28_eq_skeleton]; unfold k0_part28_skel
  iintro H Hk
  rw [wp_bind]
  iapply (part1 X K c h0 h1 h2 h3 h4 h5) $$ H
  iintro %v2 %v5 %v8 %v29 %v30 %v31 %v32 H
  dsimp only
  rw [wp_bind]
  iapply (part2 X K c h0 h1 h2 h3 h4 h5 _ _ _ _ _ _ _ _) $$ H
  iintro H
  try dsimp only
  rw [wp_bind]
  iapply (part3 X K c h0 h1 h2 h3 h4 h5 _) $$ H
  iintro %r3 H
  try dsimp only
  rw [wp_bind]
  iapply (part4 X K c h0 h1 h2 h3 h4 h5 _ _ _ _) $$ H
  iintro H
  try dsimp only
  rw [wp_bind]
  iapply (part5 X K c h0 h1 h2 h3 h4 h5 _ _ _) $$ H
  iintro H
  try dsimp only
  rw [wp_bind]
  iapply (part6 X K c h0 h1 h2 h3 h4 h5 _) $$ H
  iintro %r6 H
  obtain ⟨a6_0, a6_1, a6_2, a6_3⟩ := r6
  try dsimp only
  rw [wp_bind]
  iapply (part7 X K c h0 h1 h2 h3 h4 h5 _ _ _ _ _ _ _) $$ H
  iintro %r7 H
  obtain ⟨a7_0, a7_1⟩ := r7
  try dsimp only
  rw [wp_bind]
  iapply (part8 X K c h0 h1 h2 h3 h4 h5 _ _ _ _ _) $$ H
  iintro H
  try dsimp only
  rw [wp_bind]
  iapply (part9 X K c h0 h1 h2 h3 h4 h5 _) $$ H
  iintro %r9 H
  obtain ⟨a9_0, a9_1, a9_2⟩ := r9
  try dsimp only
  rw [wp_bind]
  iapply (part10 X K c h0 h1 h2 h3 h4 h5 _ _ _ _ _ _) $$ H
  iintro %r10 H
  obtain ⟨a10_0, a10_1⟩ := r10
  try dsimp only
  rw [wp_bind]
  iapply (part11 X K c h0 h1 h2 h3 h4 h5 _ _ _ _ _) $$ H
  iintro H
  try dsimp only
  rw [wp_bind]
  iapply (part12 X K c h0 h1 h2 h3 h4 h5 _) $$ H
  iintro %r12 H
  obtain ⟨a12_0, a12_1, a12_2⟩ := r12
  try dsimp only
  rw [wp_bind]
  iapply (part13 X K c h0 h1 h2 h3 h4 h5 _ _ _ _ _ _) $$ H
  iintro %r13 H
  try dsimp only
  rw [wp_bind]
  iapply (part14 X K c h0 h1 h2 h3 h4 h5 _ _ _ _) $$ H
  iintro H
  try dsimp only
  rw [wp_bind]
  iapply (part15 X K c h0 h1 h2 h3 h4 h5 _ _ _) $$ H
  iintro %r15 H
  obtain ⟨a15_0, a15_1⟩ := r15
  try dsimp only
  rw [wp_bind]
  iapply (part16 X K c h0 h1 h2 h3 h4 h5 _ _ _ _ _) $$ H
  iintro %r16 H
  obtain ⟨a16_0, a16_1⟩ := r16
  try dsimp only
  rw [wp_bind]
  iapply (part17 X K c h0 h1 h2 h3 h4 h5 _ _ _ _ _) $$ H
  iintro H
  try dsimp only
  rw [wp_bind]
  iapply (part18 X K c h0 h1 h2 h3 h4 h5 _ _ _) $$ H
  iintro %r18 H
  obtain ⟨a18_0, a18_1, a18_2, a18_3⟩ := r18
  try dsimp only
  rw [wp_bind]
  iapply (part19 X K c h0 h1 h2 h3 h4 h5 _ _ _ _ _ _ _) $$ H
  iintro %r19 H
  obtain ⟨a19_0, a19_1⟩ := r19
  try dsimp only
  rw [wp_bind]
  iapply (part20 X K c h0 h1 h2 h3 h4 h5 _ _ _ _ _) $$ H
  iintro %r20 H
  obtain ⟨a20_0, a20_1, a20_2, a20_3⟩ := r20
  try dsimp only
  rw [wp_bind]
  iapply (part21 X K c h0 h1 h2 h3 h4 h5 _ _ _ _ _ _ _) $$ H
  iintro %r21 H
  try dsimp only
  rw [wp_bind]
  iapply (part22 X K c h0 h1 h2 h3 h4 h5 _ _ _ _) $$ H
  iintro H
  try dsimp only
  rw [wp_bind]
  iapply (part23 X K c h0 h1 h2 h3 h4 h5 _ _ _) $$ H
  iintro H
  try dsimp only
  rw [wp_bind]
  iapply (part24 X K c h0 h1 h2 h3 h4 h5) $$ H
  iintro H
  try dsimp only
  rw [wp_bind]
  iapply (part25 X K c h0 h1 h2 h3 h4 h5) $$ H
  iintro H
  try dsimp only
  rw [wp_bind]
  iapply (part26 X K c h0 h1 h2 h3 h4 h5) $$ H
  iintro H
  try dsimp only
  rw [wp_bind]
  iapply (part27 X K c h0 h1 h2 h3 h4 h5) $$ H
  iintro H
  try dsimp only
  simp only [semSignalWord, semWaitWord, Prog.lift, Prog.bind_op, Prog.bind_ret, Prog.pure_eq_ret, wp_deviceId]
  iapply (step_sent X K c (phase2 X c (outP X c)) [] [] [(1, 3), (2, 3)] [(2, 2), (1, 2), (0, 2), (2, 1), (1, 1), (0, 1), (2, 0), (1, 0), (0, 0)] [] [] [] [] (0, 3)) $$ H
  iintro H
  iapply (step_sent X K c (phase2 X c (outP X c)) [] [] [(2, 3)] [(0, 3), (2, 2), (1, 2), (0, 2), (2, 1), (1, 1), (0, 1), (2, 0), (1, 0), (0, 0)] [] [] [] [] (1, 3)) $$ H
  iintro H
  unfold runs
  rw [wp_ret]; imodintro; iapply Hk; iexact H

/-- The body, run: from what a device holds at the start to what it leaves. -/
theorem body_run {Q : PUnit → sProp (MT nD τ sig Unit (Elt F) ℕ UU ℕ)} :
    St X K c (owedB c [0, 1, 2]) (phase0 c [0, 1, 2]) [] [] [] [] [] [0, 1, 2, 3] order []
      ⊢ iprop((bodyPost X c -∗ Q ⟨⟩)
        -∗ runs c (cc0_body qM h0 kM h1 vM h2 oM h3 locM h4 commM h5 cc0_scratch2 cc0_scratch3) Q) := by
  unfold runs
  simp only [cc0_body_eq_skeleton]; unfold cc0_body_skel
  iintro H Hk
  rw [wp_bind]
  iapply (part28 X K c h0 h1 h2 h3 h4 h5) $$ H
  iintro H
  simp only [semSignalWord, semWaitWord, Prog.lift, Prog.bind_op, Prog.bind_ret, Prog.pure_eq_ret, wp_deviceId]
  iapply (step_sent X K c (phase2 X c (outP X c)) [] [] [] [(1, 3), (0, 3), (2, 2), (1, 2), (0, 2), (2, 1), (1, 1), (0, 1), (2, 0), (1, 0), (0, 0)] [] [] [] [] (2, 3)) $$ H
  iintro H
  unfold runs
  imod (finish X K c [(2, 3), (1, 3), (0, 3), (2, 2), (1, 2), (0, 2), (2, 1), (1, 1), (0, 1), (2, 0), (1, 0), (0, 0)] (by decide) (by decide)) $$ H with H
  rw [wp_ret]; imodintro; iapply Hk; iexact H

end Cert.KernelIdealRun

end
-- ==== Proof.ILaunch.lean ====
/-
  The launch: what each device holds before and after the region, and the state its body starts from.
-/
module

public import proofs.«01_k».proof.Proof.IPartsB
public import proofs.«01_k».proof.Proof.Gen.KernelIdeal.Frame

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-! ## Lists of things held, together and one by one -/

section Lists
variable {I : Type} (Φ Ψ : I → sProp (MT nD τ sig Unit (Elt F) ℕ UU ℕ))

omit [FloatOps F] in
theorem sepL_zip : ∀ l : List I, iprop(sepL Φ l ∗ sepL Ψ l) ⊢ sepL (fun i => iprop(Φ i ∗ Ψ i)) l
  | [] => by
    rw [sepL_nil, sepL_nil, sepL_nil]
    iintro ⟨-, -⟩; iempintro
  | i :: l => by
    rw [sepL_cons, sepL_cons, sepL_cons]
    iintro ⟨⟨Ha, Hb⟩, Hc, Hd⟩
    isplitl [Ha Hc]
    · isplitl [Ha] <;> iassumption
    iapply (sepL_zip l)
    isplitl [Hb] <;> iassumption

variable {Φ Ψ}

omit [FloatOps F] in
theorem sepL_mono (h : ∀ i, Φ i ⊢ Ψ i) : ∀ l : List I, sepL Φ l ⊢ sepL Ψ l
  | [] => BIBase.Entails.rfl
  | i :: l => by
    rw [sepL_cons, sepL_cons]
    iintro ⟨Ha, Hb⟩
    isplitl [Ha]
    · iapply (h i) $$ Ha
    · iapply (sepL_mono h l) $$ Hb

omit [FloatOps F] in
/-- An update made for each entry of a list, under something persistent. -/
theorem sepL_update {R : sProp (MT nD τ sig Unit (Elt F) ℕ UU ℕ)} [BI.Persistent R]
    (h : ∀ i, iprop(R ∗ Φ i) ⊢ (|={Set.univ}=> Ψ i : sProp 𝕄)) :
    ∀ l : List I, iprop(R ∗ sepL Φ l) ⊢ (|={Set.univ}=> sepL Ψ l : sProp 𝕄)
  | [] => by
    rw [sepL_nil, sepL_nil]
    iintro ⟨-, -⟩; imodintro; iempintro
  | i :: l => by
    rw [sepL_cons, sepL_cons]
    iintro ⟨#HR, Ha, Hb⟩
    imod (h i) $$ [Ha] with Ha
    · isplitr; · iexact HR
      iexact Ha
    imod (sepL_update h l) $$ [Hb] with Hb
    · isplitr; · iexact HR
      iexact Hb
    imodintro
    isplitl [Ha] <;> iassumption

end Lists

/-! ## The contents around the region -/

variable (m : (ℓ : Loc nD τ sig) → Buf (Elt F) ℓ) (ρ : Dev nD → PrngReg)

/-- A device's buffers at launch, as the kernel's region finds them, as it leaves them, and at the end. -/
def W₀ (c : Dev nD) : Valuation τ sig (Elt F) := fun b => m (c, b)
def W₁ (c : Dev nD) : Valuation τ sig (Elt F) := StableHlo.after hostOps0 (W₀ m c)
/-- The operands the region stages. -/
def Xm (c : Dev nD) : Ins F where
  q := W₁ m c (Proc.devRef .tc main_v6)
  k := W₁ m c (Proc.devRef .tc main_v2)
  v := W₁ m c (Proc.devRef .tc main_v4)
def W₂ (c : Dev nD) : Valuation τ sig (Elt F) := Function.update (W₁ m c) (Proc.devRef .tc main_v7) (outF (Xm m) c)
def W₃ (c : Dev nD) : Valuation τ sig (Elt F) := StableHlo.after hostOps1 (W₂ m c)

theorem W₂_out (c : Dev nD) : W₂ m c (Proc.devRef .tc main_v7) = outF (Xm m) c := Function.update_self ..
theorem W₂_ne (c : Dev nD) (b : Ref sig .tc) (h : b ≠ main_v7) : W₂ m c (Proc.devRef .tc b) = W₁ m c (Proc.devRef .tc b) :=
  Function.update_of_ne (StableHlo.devRef_ne_of_ne h) ..

/-! ## What the launch leaves with each device -/

/-- Of one slot, of one slab as sender and of one slab as receiver, before the scoped cells are opened. -/
def barTok (c : Dev nD) (s : Fin 3) : sProp 𝕄 :=
  iprop(dutyTok ER (barCell (pr s c)) 0 s.rev ∗ reached ER (barCell (pr s c)) 0)
def sendTok (c : Dev nD) (p : P) : sProp 𝕄 :=
  iprop(dutyTok ER (sendCell c p) 0 0 ∗ dutyTok ER (recvCell (pr p.1 c) p) 0 0 ∗ openTok ER (sendCell c p))
def recvOpen (c : Dev nD) (p : P) : sProp 𝕄 := iprop(atPos ER (recvCell c p) 0 ∅ 0 ∗ reached ER (recvCell c p) 0)
def recvCred (c : Dev nD) (p : P) : sProp 𝕄 := cred (tallyAt (recvCell c p) () N)

def ghost (c : Dev nD) : sProp 𝕄 :=
  iprop(∃ K, invs (Xm m) K ∗ atPos ER (barCell c) 0 ∅ 0 ∗ sepL (barTok c) [0, 1, 2] ∗ sepL (sendTok c) order
    ∗ sepL (fun p => openTok ER (recvCell c p)) order)
def creds (c : Dev nD) : sProp 𝕄 := iprop(cred (tallyAt (barCell c) () 3) ∗ sepL (recvCred c) order)

/-- What the region takes in, what its body starts from, and what it hands on. -/
def Tk (c : Dev nD) : sProp 𝕄 := iprop(ghost m c ∗ creds c)
def Xk (c : Dev nD) : sProp 𝕄 :=
  iprop((∃ K, invs (Xm m) K ∗ atPos ER (barCell c) 0 ∅ 0 ∗ sepL (barTok c) [0, 1, 2] ∗ sepL (sendRes0 c) order ∗ sepL (recvOpen c) order)
    ∗ creds c ∗ levAts L lv)
def Yk (c : Dev nD) : sProp 𝕄 := semVal (barCell c) 0

def semsZ (c : Dev nD) : sProp 𝕄 :=
  iprop(sepL (fun p => semVal (sendCell c p) 0) order ∗ sepL (fun p => semVal (recvCell c p) 0) order)

omit [FloatOps F] in
theorem ownSems_eq (c : Dev nD) : (Pipeline.ownSems0 osem c : sProp 𝕄) = semsZ c := by
  unfold Pipeline.ownSems0 semsZ
  rw [bigSep_univ_prod, BI.bigSep_fin_two, sepL_univ _ order (by decide) (by decide), sepL_univ _ order (by decide) (by decide)]
  rfl

theorem open_send (K : GSem nD τ sig → ℕ) (c : Dev nD) (p : P) :
    iprop(invs (Xm m) K ∗ (sendTok c p ∗ semVal (sendCell c p) 0)) ⊢ (|={Set.univ}=> sendRes0 c p : sProp 𝕄) := by
  unfold sendTok sendRes0
  iintro ⟨#HI, ⟨Ht, Hu, Ho⟩, Hs⟩
  imod (Rounds.cell_open ER (Rd (Xm m)) (g := sendCell c p) (Set.mem_univ (K (sendCell c p)))) $$ [Ho Hs] with ⟨Hat, #Hr⟩
  · isplitr; · iapply (inv_send (Xm m) K c p) $$ HI
    isplitl [Ho] <;> iassumption
  imodintro
  isplitl [Ht]; · iexact Ht
  isplitl [Hu]; · iexact Hu
  isplitr; · iexact Hr
  iexact Hat

theorem open_recv (K : GSem nD τ sig → ℕ) (c : Dev nD) (p : P) :
    iprop(invs (Xm m) K ∗ (openTok ER (recvCell c p) ∗ semVal (recvCell c p) 0)) ⊢ (|={Set.univ}=> recvOpen c p : sProp 𝕄) := by
  unfold recvOpen
  iintro ⟨#HI, Ho, Hs⟩
  imod (Rounds.cell_open ER (Rd (Xm m)) (g := recvCell c p) (Set.mem_univ (K (recvCell c p)))) $$ [Ho Hs] with ⟨Hat, #Hr⟩
  · isplitr; · iapply (inv_recv (Xm m) K c p) $$ HI
    isplitl [Ho] <;> iassumption
  imodintro
  isplitl [Hat]; · iexact Hat
  iexact Hr

theorem hopen (c : Dev nD) : iprop(Tk m c ∗ Pipeline.ownSems0 osem c ∗ levAts L lv) ⊢ (|={Set.univ}=> Xk m c : sProp 𝕄) := by
  rw [ownSems_eq]
  unfold Tk Xk ghost semsZ
  iintro ⟨⟨⟨%K, #HI, Hat, Hb, Hs, Hr⟩, Hc⟩, ⟨Zs, Zr⟩, #Hlev⟩
  imod (sepL_update (R := invs (Xm m) K) (fun p => open_send m K c p) order) $$ [Hs Zs] with Hs
  · isplitr; · iexact HI
    iapply (sepL_zip (sendTok c) (fun p => semVal (sendCell c p) 0) order)
    isplitl [Hs] <;> iassumption
  imod (sepL_update (R := invs (Xm m) K) (fun p => open_recv m K c p) order) $$ [Hr Zr] with Hr
  · isplitr; · iexact HI
    iapply (sepL_zip (fun p => openTok ER (recvCell c p)) (fun p => semVal (recvCell c p) 0) order)
    isplitl [Hr] <;> iassumption
  imodintro
  isplitl [Hat Hb Hs Hr]
  · iexists K
    isplitr; · iexact HI
    isplitl [Hat]; · iexact Hat
    isplitl [Hb]; · iexact Hb
    isplitl [Hs] <;> iassumption
  isplitl [Hc]; · iexact Hc
  iexact Hlev

/-! ## The body's state at its start -/

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

omit [FloatOps F] in
theorem loc_parts (c : Dev nD) :
    iprop(∃ f : Buf (Elt F) ((c : Thread nD τ).loc cc0_scratch0), ((c : Thread nD τ).loc cc0_scratch0) ↦{fullShare} f)
      ⊢ (sepL (locAny c) [0, 1, 2, 3] : sProp 𝕄) := by
  rw [sepL_univ (locAny c) [0, 1, 2, 3] (by decide) (by decide)]
  iintro ⟨%f, H⟩
  have h : ∀ g : Fin 4, (rowsP c g fullShare f : sProp 𝕄) ⊢ locAny c g := fun g => by
    unfold locAny; iintro H; iexists f; iexact H
  iapply (show (bigSep Finset.univ (fun g : Fin 4 => rowsP c g fullShare f) : sProp 𝕄) ⊢ bigSep Finset.univ (locAny c) from
    bigSep_mono fun g _ => h g)
  iapply (Entails.of_eq (rows_whole c fullShare f).symm) $$ H

omit [FloatOps F] in
theorem slot_parts (c : Dev nD) :
    iprop((∃ f : Buf (Elt F) ((c : Thread nD τ).loc cc0_scratch1), ((c : Thread nD τ).loc cc0_scratch1) ↦{fullShare} f)
        ∗ sepL (fun p => reached ER (recvCell c p) 0) order)
      ⊢ (iprop(ownSlot c 0 ∗ ownSlot c 1 ∗ ownSlot c 2) : sProp 𝕄) := by
  rw [sepL_univ _ order (by decide) (by decide)]
  have h : ∀ (f : Vec F S3x64x66 .f32) (p : P), iprop(slabP c p f ∗ reached ER (recvCell c p) 0)
      ⊢ (iprop((∃ f, slabP c p f) ∗ reached ER (recvCell c p) 0) : sProp 𝕄) := fun f p => by
    iintro ⟨H, Hr⟩
    isplitl [H]; · iexists f; iexact H
    iexact Hr
  have e : (bigSep Finset.univ fun p : P => iprop((∃ f, slabP c p f) ∗ reached ER (recvCell c p) 0))
      = (iprop(ownSlot c 0 ∗ ownSlot c 1 ∗ ownSlot c 2) : sProp 𝕄) := by
    rw [bigSep_univ_prod, bigSep_univ_eq_bigSepL (I := Fin 3) [0, 1, 2] (by decide) (by decide)]
    rfl
  rw [← e]
  iintro ⟨⟨%f, H⟩, Hr⟩
  ihave H' := (Entails.of_eq (slabs_whole c f).symm) $$ H
  iapply (show (bigSep Finset.univ (fun p : P => iprop(slabP c p f ∗ reached ER (recvCell c p) 0)) : sProp 𝕄)
      ⊢ bigSep Finset.univ fun p : P => iprop((∃ f, slabP c p f) ∗ reached ER (recvCell c p) 0) from
    bigSep_mono fun p _ => h f p)
  iapply (Entails.of_eq (bigSep_sep' Finset.univ (fun p : P => (slabP c p f : sProp 𝕄)) (fun p => reached ER (recvCell c p) 0)).symm)
  isplitl [H'] <;> iassumption

omit [FloatOps F] in
theorem bar_parts (c : Dev nD) :
    iprop(sepL (barTok c) [0, 1, 2] ∗ ownSlot c 0 ∗ ownSlot c 1 ∗ ownSlot c 2) ⊢ (sepL (sigRes c) [0, 1, 2] : sProp 𝕄) := by
  rw [sepL_cons, sepL_cons, sepL_cons, sepL_nil, sepL_cons, sepL_cons, sepL_cons, sepL_nil]
  unfold barTok sigRes
  iintro ⟨⟨⟨A0, R0⟩, ⟨A1, R1⟩, ⟨A2, R2⟩, -⟩, H0, H1, H2⟩
  isplitl [A0 R0 H2]
  · isplitl [A0]; · iexact A0
    isplitl [R0]; · iexact R0
    iexact H2
  isplitl [A1 R1 H1]
  · isplitl [A1]; · iexact A1
    isplitl [R1]; · iexact R1
    iexact H1
  isplitl [A2 R2 H0]
  · isplitl [A2]; · iexact A2
    isplitl [R2]; · iexact R2
    iexact H0
  iempintro

theorem start_state (X : Dev nD → Ins F) (K : GSem nD τ sig → ℕ) (c : Dev nD) :
    iprop(invs X K ∗ (∃ W, owes (c : Thread nD τ) (O₀ c) W) ∗ atPos ER (barCell c) 0 ∅ 0 ∗ sepL (barTok c) [0, 1, 2] ∗ sepL (sendRes0 c) order
        ∗ sepL (recvOpen c) order ∗ creds c ∗ levAts L lv ∗ scratch c ∗ outAny c ∗ insP X c)
      ⊢ St X K c (owedB c [0, 1, 2]) (phase0 c [0, 1, 2]) [] [] [] [] [] [0, 1, 2, 3] order [] := by
  unfold creds scratch
  iintro ⟨#HI, HO, Hat, Hb, Hs, Hr, ⟨Hc3, Hcr⟩, #Hlev, ⟨Hl, Hm⟩, Ho, Hi⟩
  ihave Hr2 := (sepL_sep (fun p => atPos ER (recvCell c p) 0 ∅ 0) (fun p => reached ER (recvCell c p) 0) order) $$ [Hr]
  · iapply (sepL_mono (fun p => (show recvOpen c p ⊢ iprop(atPos ER (recvCell c p) 0 ∅ 0 ∗ reached ER (recvCell c p) 0) from by
      unfold recvOpen; exact BIBase.Entails.rfl)) order) $$ Hr
  icases Hr2 with ⟨Hra, Hrr⟩
  ihave Hsl := (slot_parts c) $$ [Hm Hrr]
  · isplitl [Hm] <;> iassumption
  icases Hsl with ⟨H0, H1, H2⟩
  unfold St phase0
  isplitr; · iexact HI
  isplitl [HO]; · iexact HO
  isplitl [Hat Hb Hs Hc3 Ho H0 H1 H2]
  · isplitr; · iexact Hlev
    isplitl [Hb H0 H1 H2]
    · iapply (bar_parts c)
      isplitl [Hb]; · iexact Hb
      isplitl [H0]; · iexact H0
      isplitl [H1] <;> iassumption
    isplitl [Hc3]; · iexact Hc3
    isplitl [Hat]; · iexact Hat
    isplitl [Hs]; · iexact Hs
    iexact Ho
  rw [sepL_nil, sepL_nil, sepL_nil, sepL_nil, sepL_nil, sepL_nil]
  isplitr; · iempintro
  isplitr; · iempintro
  isplitr; · iempintro
  isplitr; · iempintro
  isplitr; · iempintro
  isplitl [Hl]; · iapply (loc_parts c) $$ Hl
  isplitl [Hcr Hra]
  · iapply (sepL_mono (fun p => (show iprop(recvCred c p ∗ atPos ER (recvCell c p) 0 ∅ 0) ⊢ recvRes c p from by
      unfold recvRes recvCred; exact BIBase.Entails.rfl)) order)
    iapply (sepL_zip (recvCred c) (fun p => atPos ER (recvCell c p) 0 ∅ 0) order)
    isplitl [Hcr] <;> iassumption
  isplitr; · iempintro
  iexact Hi

end Cert.KernelIdealRun

end
-- ==== Proof.IRegion.lean ====
/-
  The region: its proof data, its body obligation, and its record.
-/
module

public import proofs.«01_k».proof.Proof.ILaunch
public import Idealize.ShloMosaic.Lib.Pipeline.ValueKit.Geometry

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

def dat (c : Dev nD) : Dat τ (Elt F) Unit ℕ UU ℕ cfg0 c where
  A w := W₁ m c (Proc.devRef .tc (Pipeline.arrRef spec0 w))
  after w _ := match w with
    | ⟨0, _⟩ => (Xm m c).q
    | ⟨1, _⟩ => (Xm m c).k
    | ⟨2, _⟩ => (Xm m c).v
    | ⟨3, _⟩ => outF (Xm m) c
  Φ t := if t.val = 0 then iprop(Xk m c ∗ scratch c ∗ ∃ r, prngReg c r) else iprop(Yk c ∗ semsZ c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_in {cfg : Cfg sig Λ₀} {c : Dev nD} (d : Dat τ (Elt F) Unit ℕ UU ℕ cfg c) (t : Fin (cfg.N + 1))
    (O : CellTallies nD τ sig Unit) (h0 : d.owed t = O) (hr : d.recorded t = Set.univ) :
    iprop(∃ W, owes (c : Thread nD τ) O W) ⊢ (d.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_out {cfg : Cfg sig Λ₀} {c : Dev nD} (d : Dat τ (Elt F) Unit ℕ UU ℕ cfg c) (t : Fin (cfg.N + 1))
    (O : CellTallies nD τ sig Unit) (h0 : d.owed t = O) :
    (d.owesAt () t : sProp 𝕄) ⊢ iprop(∃ W, owes (c : Thread nD τ) O W) := by
  unfold Dat.owesAt Pipeline.owesWithin; rw [h0]
  iintro ⟨%W, -, HO⟩; iexists W; iexact HO

/-! ## The windows are whole arrays -/

theorem before_q (c : Dev nD) (d) : (dat m c).before (0 : Fin 4) t0_0 d = (Xm m c).q := by
  unfold Dat.before; rw [if_pos (fetch0_0 t0_0)]
  funext j
  show W₁ m c (Proc.devRef .tc main_v6) _ = W₁ m c (Proc.devRef .tc main_v6) j
  congr 1
  funext a
  match a with
  | ⟨0, _⟩ => apply Fin.ext; show 0 + 1 * (j 0).val = (j 0).val; omega
  | ⟨1, _⟩ => apply Fin.ext; show 0 + 1 * (j 1).val = (j 1).val; omega
theorem before_k (c : Dev nD) (d) : (dat m c).before (1 : Fin 4) t0_0 d = (Xm m c).k := by
  unfold Dat.before; rw [if_pos (fetch0_1 t0_0)]
  funext j
  show W₁ m c (Proc.devRef .tc main_v2) _ = W₁ m c (Proc.devRef .tc main_v2) j
  congr 1
  funext a
  match a with
  | ⟨0, _⟩ => apply Fin.ext; show 0 + 1 * (j 0).val = (j 0).val; omega
  | ⟨1, _⟩ => apply Fin.ext; show 0 + 1 * (j 1).val = (j 1).val; omega
  | ⟨2, _⟩ => apply Fin.ext; show 0 + 1 * (j 2).val = (j 2).val; omega
theorem before_v (c : Dev nD) (d) : (dat m c).before (2 : Fin 4) t0_0 d = (Xm m c).v := by
  unfold Dat.before; rw [if_pos (fetch0_2 t0_0)]
  funext j
  show W₁ m c (Proc.devRef .tc main_v4) _ = W₁ m c (Proc.devRef .tc main_v4) j
  congr 1
  funext a
  match a with
  | ⟨0, _⟩ => apply Fin.ext; show 0 + 1 * (j 0).val = (j 0).val; omega
  | ⟨1, _⟩ => apply Fin.ext; show 0 + 1 * (j 1).val = (j 1).val; omega
  | ⟨2, _⟩ => apply Fin.ext; show 0 + 1 * (j 2).val = (j 2).val; omega

theorem out_whole : (cfg0.win (3 : Fin 4)).WholeAt t0_0 := by decide +kernel

theorem arr_out (c : Dev nD) : (dat m c).arrAt (3 : Fin 4) cfg0.N = outF (Xm m) c := by
  funext i
  exact (dat m c).arrAt_emb_eq_after_last (3 : Fin 4) t0_0 out_whole i

/-! ## The body's obligation -/

omit [FloatOps F] in
theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) ((c : Thread nD τ).loc b), ⌜f = x⌝ ∗ (((c : Thread nD τ).loc b) ↦{fullShare} f)) := by
  unfold owns; simp only [Memref.view_whole, View.read_whole, View.set_whole]

abbrev stg (c : Dev nD) (b : Ref sig .tc) (x : b.ty.Contents (Elt F)) : sProp 𝕄 :=
  iprop(∃ f : Buf (Elt F) ((c : Thread nD τ).loc b), ⌜f = x⌝ ∗ (((c : Thread nD τ).loc b) ↦{fullShare} f))

def obPre (c : Dev nD) : sProp 𝕄 :=
  iprop((Xk m c ∗ scratch c ∗ ∃ r, prngReg c r) ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))
def obPost (c : Dev nD) : sProp 𝕄 :=
  iprop((Yk c ∗ semsZ c ∗ scratch c ∗ ∃ r, prngReg c r) ∗ (dat m c).owesAt () t0_0.succ
    ∗ stg c cc0_stg0_0 (Xm m c).q ∗ stg c cc0_stg1_0 (Xm m c).k ∗ stg c cc0_stg2_0 (Xm m c).v ∗ stg c cc0_stg3_0 (outF (Xm m) c))

omit [FloatOps F] in
theorem stg_at (c : Dev nD) (b : Ref sig .tc) (x : b.ty.Contents (Elt F)) : (((c : Thread nD τ).loc b ↦{fullShare} x) : sProp 𝕄) ⊢ stg c b x := by
  iintro H; iexists x; isplitr; · ipureintro; rfl
  iexact H

theorem ob_start (c : Dev nD) : obPre m c ⊢ iprop((∃ K, St (Xm m) K c (owedB c [0, 1, 2]) (phase0 c [0, 1, 2]) [] [] [] [] [] [0, 1, 2, 3] order [])
    ∗ ∃ r, prngReg c r) := by
  unfold obPre Xk
  iintro ⟨⟨⟨⟨%K, HI, Hat, Hb, Hs, Hr⟩, Hc, Hlev⟩, Hsc, Hp⟩, HO, ⟨%d0, %f0, %e0, Hq⟩, ⟨%d1, %f1, %e1, Hk⟩, ⟨%d2, %f2, %e2, Hv⟩, ⟨%d3, %f3, %e3, Ho⟩⟩
  have e0' := e0.trans (before_q m c d0)
  have e1' := e1.trans (before_k m c d1)
  have e2' := e2.trans (before_v m c d2)
  subst e0' e1' e2'
  isplitr [Hp]
  · iexists K
    iapply (start_state (Xm m) K c)
    isplitl [HI]; · iexact HI
    isplitl [HO]; · iapply (owesAt_out (dat m c) _ (O₀ c) (owed_first m c)) $$ HO
    isplitl [Hat]; · iexact Hat
    isplitl [Hb]; · iexact Hb
    isplitl [Hs]; · iexact Hs
    isplitl [Hr]; · iexact Hr
    isplitl [Hc]; · iexact Hc
    isplitl [Hlev]; · iexact Hlev
    isplitl [Hsc]; · iexact Hsc
    isplitl [Ho]; · unfold outAny; iexists f3; iexact Ho
    unfold insP
    isplitl [Hq]; · iexact Hq
    isplitl [Hk] <;> iassumption
  iexact Hp

theorem ob_end (c : Dev nD) : iprop(bodyPost (Xm m) c ∗ ∃ r, prngReg c r) ⊢ obPost m c := by
  unfold bodyPost obPost insP outP Yk semsZ scratch
  iintro ⟨⟨HO, ⟨Hq, Hk, Hv⟩, Ho, Hsc, Zb, Zs, Zr⟩, Hp⟩
  isplitl [Zb Zs Zr Hsc Hp]
  · isplitl [Zb]; · iexact Zb
    isplitl [Zs Zr]
    · isplitl [Zs] <;> iassumption
    isplitl [Hsc]; · iexact Hsc
    iexact Hp
  isplitl [HO]; · iapply (owesAt_in (dat m c) t0_0.succ 0 (owed_last m c) rfl) $$ HO
  isplitl [Hq]; · iapply (stg_at c cc0_stg0_0 (Xm m c).q) $$ Hq
  isplitl [Hk]; · iapply (stg_at c cc0_stg1_0 (Xm m c).k) $$ Hk
  isplitl [Hv]; · iapply (stg_at c cc0_stg2_0 (Xm m c).v) $$ Hv
  iapply (stg_at c cc0_stg3_0 (outF (Xm m) c)) $$ Ho

theorem body_ob (c : Dev nD) : BodyObligation (dat (F := F) m c) (defs₀ (F := F)) 𝒱₀ () Set.univ := fun t => by
  rw [fin_N0 t]
  rw [bigSep_W0, bigSep_W0]
  simp only [owns_whole_eq]
  show obPre m c ⊢ runs c (cc0_body qM (Memref.isWhole_whole _) kM (Memref.isWhole_whole _) vM (Memref.isWhole_whole _) oM (Memref.isWhole_whole _)
    locM (Memref.isWhole_whole _) commM (Memref.isWhole_whole _) cc0_scratch2 cc0_scratch3) (fun _ => obPost m c)
  iintro H
  ihave H' := (ob_start m c) $$ H
  icases H' with ⟨⟨%K, HS⟩, Hp⟩
  iapply (body_run (Xm m) K c _ _ _ _ _ _) $$ HS
  iintro Hpost
  iapply (ob_end m c)
  isplitl [Hpost] <;> iassumption

/-! ## The region -/

/-- The unscoped buffers the region does not stage. -/
def rest : Finset (DevRef τ sig) := Pipeline.ucRefs τ sig \ Pipeline.arrRefs (τ := τ) spec0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (c : Dev nD) (w : Fin 4) (s : Fin (spec0 w).nbuf) : lv ((c : Thread nD τ), .dma ((spec0 w).sem s)) () = 0 := by
  have h : ∀ (w : Fin 4) (s : Fin (spec0 w).nbuf), kind (.dma ((spec0 w).sem s)) = .other := by decide
  dsimp only [lv]; rw [h]

theorem O₀_pos {c : Dev nD} {g : GSem nD τ sig} {u : Unit} (h : 0 < O₀ c g u) :
    (∃ s, g = barCell (pr s c)) ∨ ∃ p, g = recvCell (pr p.1 c) p := by
  have h' : 0 < ((owed c order g u + tallyAt (barCell (pr 2 c)) () 1 g u) + tallyAt (barCell (pr 1 c)) () 1 g u) + tallyAt (barCell (pr 0 c)) () 1 g u := h
  rw [tallyAt_apply, tallyAt_apply, tallyAt_apply] at h'
  by_cases h0 : 0 < owed c order g u
  · exact .inr (owed_pos c order g u h0)
  by_cases e0 : g = barCell (pr 0 c) ∧ u = ()
  · exact .inl ⟨0, e0.1⟩
  by_cases e1 : g = barCell (pr 1 c) ∧ u = ()
  · exact .inl ⟨1, e1.1⟩
  by_cases e2 : g = barCell (pr 2 c) ∧ u = ()
  · exact .inl ⟨2, e2.1⟩
  rw [if_neg e0, if_neg e1, if_neg e2] at h'
  omega

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨s, rfl⟩ | ⟨p, rfl⟩
    · exact ⟨by rw [L_tc]; exact Finset.mem_singleton_self _, by rw [lv_bar]; decide⟩
    · exact ⟨by rw [L_tc]; exact Finset.mem_singleton_self _, by rw [lv_recv]; decide⟩
  · exact absurd h (Nat.lt_irrefl 0)

theorem held_none (c : Dev nD) (W : Valuation τ sig (Elt F)) : (StableHlo.held (c.tc : Thread nD τ) ∅ W : sProp 𝕄) = iprop(emp) := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (W₁ m c) ∗ Xk m c) ⊢ (pdats m 0 c).Φ 0 := by
  rw [show (pdats m 0 c).Φ 0 = iprop(Xk m c ∗ scratch c ∗ ∃ r, prngReg c r) from rfl,
    show (Pipeline.scopedRest (Pipeline.pin (pcfgs (F := F)) adm 0).spec c : sProp 𝕄) = scratch c from scopedRest0_eq c]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W₂ m c) ∗ Pipeline.ownSems0 osem c ∗ Yk c) := by
  rw [show (pdats m 0 c).Φ (Fin.last _) = iprop(Yk c ∗ semsZ c ∗ scratch c ∗ ∃ r, prngReg c r) from rfl,
    show (Pipeline.scopedRest (Pipeline.pin (pcfgs (F := F)) adm 0).spec c : sProp 𝕄) = scratch c from scopedRest0_eq c,
    ownSems_eq, held_none]
  iintro ⟨HY, Hz, Hs, Hp⟩
  isplitl [Hs]; · iexact Hs
  isplitl [Hp]; · iexact Hp
  isplitr; · iempintro
  isplitl [Hz] <;> iassumption

theorem share_full (c : Dev nD) (w) : (pdats m 0 c).share w = fullShare := by
  show (dat m c).share w = fullShare
  unfold Dat.share; split <;> rfl

theorem not_out (b : DevRef τ sig) (h : b ∈ rest \ ∅) : b ≠ Proc.devRef .tc main_v7 := by
  rintro rfl
  rw [Finset.sdiff_empty] at h
  unfold rest at h
  exact (Finset.mem_sdiff.mp h).2 (Finset.mem_map_of_mem _ (Finset.mem_image.mpr ⟨(3 : Fin 4), Finset.mem_univ _, rfl⟩))

theorem arr_end (c : Dev nD) (w : Fin 4) :
    (dat m c).arrAt w cfg0.N = W₂ m c (Proc.devRef .tc (Pipeline.arrRef spec0 w)) := by
  match w with
  | ⟨0, _⟩ => exact ((dat m c).arrAt_in (0 : Fin 4) rfl _).trans (W₂_ne m c main_v6 (by decide)).symm
  | ⟨1, _⟩ => exact ((dat m c).arrAt_in (1 : Fin 4) rfl _).trans (W₂_ne m c main_v2 (by decide)).symm
  | ⟨2, _⟩ => exact ((dat m c).arrAt_in (2 : Fin 4) rfl _).trans (W₂_ne m c main_v4 (by decide)).symm
  | ⟨3, _⟩ => exact (arr_out m c).trans (W₂_out m c).symm

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_ob m c).loose)
    (fun _ => 0) O₀ (fun c => (owed_zero m c).trans (zero_add _).symm) (owed_last m) (fun _ => rfl) (share_full m)
    (W₁ m) (W₂ m) (fun c b hb => Function.update_of_ne (not_out b hb) ..)
    (Tk m) Yk (Xk m) Yk (hopen m) (hin m) (hout m)
    (fun c => by iintro H; imodintro; iexact H)
    (fun _ => 0)
    ⟨fun c w s => by rw [L_tc]; exact Finset.mem_singleton_self _, fun c w s => le_of_eq (lv_stage c w s), fun c t g i h => cutD m c t g i h⟩
    (fun _ => iprop(emp))
    (fun _ _ => rfl) (arr_end m)

end Cert.KernelIdealRun

end
-- ==== Proof.IDeal.lean ====
/-
  The segments of the program, and what the launch makes and deals to the devices.
-/
module

public import proofs.«01_k».proof.Proof.IRegion

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three segments -/

local notation "ℍ" => Pipeline.HostSeg (Name := ℕ) (U := UU) (pcfgs (F := F)) defs₀ 𝒱₀ L lv

abbrev bufs : Finset (DevRef τ sig) := Pipeline.ucRefs τ sig

theorem ops0_sub : ∀ op ∈ (hostOps0 : List (HloOp τ sig (Elt F))), op.bufs ⊆ bufs :=
  fun op h => Pipeline.sub_ucRefs op ((List.forall_iff_forall_mem.mp hostOps0_sub) op h)
theorem ops1_sub : ∀ op ∈ (hostOps1 : List (HloOp τ sig (Elt F))), op.bufs ⊆ bufs :=
  fun op h => Pipeline.sub_ucRefs op ((List.forall_iff_forall_mem.mp hostOps1_sub) op h)

/-- What rides beside the buffers before the region, and after it. -/
def R₀ (c : Dev nD) : sProp 𝕄 := iprop(Tk m c ∗ (∃ r, prngReg c r) ∗ ∃ W, owes (c : Thread nD τ) (O₀ c) W)
def R₁ (c : Dev nD) : sProp 𝕄 := iprop(Yk c ∗ ∃ W, owes (c : Thread nD τ) (0 : CellTallies nD τ sig Unit) W)

def seg0 : ℍ := Pipeline.HostSeg.ofOps _ _ _ _ _ bufs hostOps0 ops0_sub (List.forall_iff_forall_mem.mp hostOps0_fresh) (W₀ m) (R₀ m)
def seg1 : ℍ := Pipeline.HostSeg.ofOps _ _ _ _ _ bufs hostOps1 ops1_sub (List.forall_iff_forall_mem.mp hostOps1_fresh) (W₂ m) R₁

theorem arr_sub : Pipeline.arrRefs (τ := τ) spec0 ⊆ bufs := Pipeline.arrRefs_sub_ucRefs spec0 winFacts0.arr_unscoped

theorem reg_pre (c : Dev nD) : iprop(StableHlo.held (c : Thread nD τ) bufs (W₁ m c) ∗ R₀ m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) rest (W₁ m c) ∗ emp) ∗ Tk m c ∗ ∃ Wd, owes (c : Thread nD τ) (0 + O₀ c) Wd)
  rw [zero_add, StableHlo.held_sub_split (c.tc : Thread nD τ) arr_sub (W₁ m c)]
  unfold R₀ rest
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) bufs (W₂ m c) ∗ R₁ c) := by
  show iprop(StableHlo.held (c.tc : Thread nD τ) (Pipeline.arrRefs (τ := τ) spec0) (W₂ m c) ∗ (∃ r, prngReg c r)
    ∗ (StableHlo.held (c.tc : Thread nD τ) rest (W₂ m c) ∗ emp) ∗ Yk c ∗ ∃ Wd, owes (c : Thread nD τ) (0 : CellTallies nD τ sig Unit) Wd) ⊢ _
  rw [StableHlo.held_sub_split (c.tc : Thread nD τ) arr_sub (W₂ m c)]
  unfold R₁ rest
  iintro ⟨Ha, -, ⟨Hr, -⟩, Hb, HO⟩
  isplitl [Ha Hr]
  · isplitl [Ha] <;> iassumption
  isplitl [Hb] <;> iassumption

def segs : List (Pipeline.Seg (pcfgs (F := F)) adm (pdats m) () defs₀ 𝒱₀ L lv) :=
  [.host (seg0 m), .region (reg m), .host (seg1 m)]

theorem main_eq (c : Dev nD) : main (F := F) c = Pipeline.Seg.run (segs m) :=
  main_segs adm (pdats m) () 𝒱₀ L lv (seg0 m) (seg1 m) (reg m) rfl rfl c

/-! ## The launch: every cell made, the scoped ones unopened, and all of it dealt -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- One token for each slot's unit to a barrier cell, one for each send and receive cell. -/
abbrev tokOf : Fin 3 ⊕ (Fin 2 × P) → SemLoc sig × Fin 3 := Sum.elim (fun s => (.reg barS, s)) (fun k => (osem k, 0))
theorem tokOf_inj : Function.Injective tokOf := by decide
def launchT : Finset (GSem nD τ sig × ℕ × Fin 3) :=
  Finset.univ.map ⟨fun ck : Dev nD × (Fin 3 ⊕ (Fin 2 × P)) => (((ck.1 : Thread nD τ), (tokOf ck.2).1), 0, (tokOf ck.2).2), fun _ _ h =>
    Prod.ext (congrArg (fun t : GSem nD τ sig × ℕ × Fin 3 => t.1.1.1) h)
      (tokOf_inj (Prod.ext (congrArg (fun t : GSem nD τ sig × ℕ × Fin 3 => t.1.2) h) (congrArg (fun t : GSem nD τ sig × ℕ × Fin 3 => t.2.2) h)))⟩

def u₀ : UU :=
  (initOf (Pipeline.cells (Pipeline.pin (pcfgs (F := F)) adm) cellOf_inj) (Pipeline.launchToks (Pipeline.pin (pcfgs (F := F)) adm) cellOf_inj),
    launchOf barCells scCells launchT)

def launched : sProp 𝕄 := BI.own (ER (launchOf barCells scCells launchT))

/-- A resource, all of it on device 0. -/
def onFirst (A : sProp (MT nD τ sig Unit (Elt F) ℕ UU ℕ)) (c : Dev nD) : sProp 𝕄 := if c = 0 then A else iprop(emp)
omit [FloatOps F] in
theorem bigSep_onFirst (A : sProp (MT nD τ sig Unit (Elt F) ℕ UU ℕ)) : bigSep Finset.univ (onFirst A) = A := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- What every device may consult. -/
def records (κ : GSem nD τ sig → ℕ) : sProp 𝕄 := iprop(invs (Xm m) κ ∗ ∃ S : Finset (GSem nD τ sig), ⌜∀ c, barCell c ∈ S⌝ ∗ bigSep S fun g => reached ER g 0)
instance records_persistent (κ : GSem nD τ sig → ℕ) : BI.Persistent (records m κ) := by unfold records; infer_instance

theorem records_reached (κ : GSem nD τ sig → ℕ) (c : Dev nD) : records m κ ⊢ reached ER (barCell c) 0 := by
  unfold records
  iintro ⟨-, %S, %h, H⟩
  iapply (show bigSep S (fun g => (reached ER g 0 : sProp 𝕄)) ⊢ reached ER (barCell c) 0 from bigSep_elim (h c)) $$ H

/-- What stays with one device. -/
def opens (c : Dev nD) : sProp 𝕄 := iprop(sepL (fun p => openTok ER (sendCell c p)) order ∗ sepL (fun p => openTok ER (recvCell c p)) order)
def barToks (c : Dev nD) : sProp 𝕄 := sepL (fun s : Fin 3 => dutyTok ER (barCell (pr s c)) 0 s.rev) [0, 1, 2]
def sendToks (c : Dev nD) : sProp 𝕄 := sepL (fun p => dutyTok ER (sendCell c p) 0 0) order
def recvToks (c : Dev nD) : sProp 𝕄 := sepL (fun p : P => dutyTok ER (recvCell (pr p.1 c) p) 0 0) order
def linear (c : Dev nD) : sProp 𝕄 := iprop(atPos ER (barCell c) 0 ∅ 0 ∗ opens c ∗ barToks c ∗ sendToks c ∗ recvToks c)

theorem ghost_intro (κ : GSem nD τ sig → ℕ) (c : Dev nD) : iprop(records m κ ∗ linear c) ⊢ ghost m c := by
  have hb : ∀ l : List (Fin 3), iprop(records m κ ∗ sepL (fun s : Fin 3 => dutyTok ER (barCell (pr s c)) 0 s.rev) l) ⊢ sepL (barTok c) l := by
    intro l
    induction l with
    | nil => rw [sepL_nil, sepL_nil]; iintro ⟨-, -⟩; iempintro
    | cons s l ih =>
      rw [sepL_cons, sepL_cons]
      unfold barTok at ih ⊢
      iintro ⟨#HR, Ha, Hb⟩
      isplitl [Ha]
      · isplitl [Ha]; · iexact Ha
        iapply (records_reached m κ (pr s c)) $$ HR
      iapply ih
      isplitr; · iexact HR
      iexact Hb
  unfold linear opens ghost barToks sendToks recvToks
  iintro ⟨#HR, Hat, ⟨Hos, Hor⟩, Hb, Hs, Hr⟩
  iexists κ
  isplitr
  · iapply (show records m κ ⊢ invs (Xm m) κ from by unfold records; iintro ⟨H, -⟩; iexact H) $$ HR
  isplitl [Hat]; · iexact Hat
  isplitl [Hb]
  · iapply (hb [0, 1, 2])
    isplitr; · iexact HR
    iexact Hb
  isplitl [Hs Hr Hos]
  · iapply (sepL_mono (fun p => (show iprop(dutyTok ER (sendCell c p) 0 0 ∗ (dutyTok ER (recvCell (pr p.1 c) p) 0 0 ∗ openTok ER (sendCell c p))) ⊢ sendTok c p from by
      unfold sendTok; exact BIBase.Entails.rfl)) order)
    iapply (sepL_zip (fun p => dutyTok ER (sendCell c p) 0 0) _ order)
    isplitl [Hs]; · iexact Hs
    iapply (sepL_zip (fun p => dutyTok ER (recvCell (pr p.1 c) p) 0 0) (fun p => openTok ER (sendCell c p)) order)
    isplitl [Hr] <;> iassumption
  iexact Hor

/-! ### The tokens, dealt to who pays -/

def bars (c : Dev nD) (s : Fin 3) : sProp 𝕄 := dutyTok ER (barCell c) 0 s
def recvs (p : P) (c : Dev nD) : sProp 𝕄 := dutyTok ER (recvCell c p) 0 0

omit [FloatOps F] in
theorem toks_eq : bigSep launchT (fun x => (dutyTok ER x.1 x.2.1 x.2.2 : sProp 𝕄))
    = bigSep Finset.univ fun c : Dev nD => iprop(bigSep Finset.univ (bars c) ∗ sendToks c ∗ bigSep Finset.univ fun p : P => recvs p c) := by
  unfold launchT; rw [bigSep_map, bigSep_univ_prod]
  refine bigSep_congr fun c _ => ?_
  refine (BI.bigSep_univ_sum _).trans ?_
  congr 1
  refine (bigSep_univ_prod _).trans ?_
  rw [BI.bigSep_fin_two]
  unfold sendToks
  rw [sepL_univ _ order (by decide) (by decide)]
  rfl

omit [FloatOps F] in
theorem bars_around : (bigSep Finset.univ fun c : Dev nD => bigSep Finset.univ (bars c)) = (bigSep Finset.univ fun c : Dev nD => barToks c : sProp 𝕄) := by
  rw [bigSep_univ_comm (fun (c : Dev nD) (s : Fin 3) => (bars c s : sProp 𝕄))]
  have h : ∀ s : Fin 3, (bigSep Finset.univ fun c : Dev nD => (bars c s : sProp 𝕄)) = bigSep Finset.univ fun c : Dev nD => bars (pr s.rev c) s :=
    fun s => bigSep_univ_equiv (turn s.rev) fun c => (bars c s : sProp 𝕄)
  rw [bigSep_congr fun s _ => h s, ← bigSep_univ_comm (fun (c : Dev nD) (s : Fin 3) => (bars (pr s.rev c) s : sProp 𝕄))]
  refine bigSep_congr fun c _ => ?_
  unfold barToks
  rw [bigSep_univ_equiv Fin.revPerm (fun s : Fin 3 => (bars (pr s.rev c) s : sProp 𝕄)), sepL_univ _ [0, 1, 2] (by decide) (by decide)]
  refine bigSep_congr fun s _ => ?_
  show bars (pr s.rev.rev c) s.rev = _
  rw [Fin.rev_rev]
  rfl

omit [FloatOps F] in
theorem recvs_around : (bigSep Finset.univ fun c : Dev nD => bigSep Finset.univ fun p : P => recvs p c) = (bigSep Finset.univ fun c : Dev nD => recvToks c : sProp 𝕄) := by
  rw [bigSep_univ_comm (fun (c : Dev nD) (p : P) => (recvs p c : sProp 𝕄))]
  have h : ∀ p : P, (bigSep Finset.univ fun c : Dev nD => (recvs p c : sProp 𝕄)) = bigSep Finset.univ fun c : Dev nD => recvs p (pr p.1 c) :=
    fun p => bigSep_univ_equiv (turn p.1) fun c => (recvs p c : sProp 𝕄)
  rw [bigSep_congr fun p _ => h p, ← bigSep_univ_comm (fun (c : Dev nD) (p : P) => (recvs p (pr p.1 c) : sProp 𝕄))]
  refine bigSep_congr fun c _ => ?_
  unfold recvToks
  rw [sepL_univ _ order (by decide) (by decide)]
  rfl

omit [FloatOps F] in
theorem toks_around : bigSep launchT (fun x => (dutyTok ER x.1 x.2.1 x.2.2 : sProp 𝕄))
    = bigSep Finset.univ fun c : Dev nD => iprop(barToks c ∗ sendToks c ∗ recvToks c) := by
  rw [toks_eq, bigSep_sep', bigSep_sep', bars_around, recvs_around, ← bigSep_sep', ← bigSep_sep']

omit [FloatOps F] in
theorem opens_eq : bigSep scCells (fun g => (openTok ER g : sProp 𝕄)) = bigSep Finset.univ fun c : Dev nD => (opens c : sProp 𝕄) := by
  rw [bigSep_map, bigSep_univ_prod]
  refine bigSep_congr fun c _ => ?_
  refine (bigSep_univ_prod _).trans ?_
  unfold opens
  rw [BI.bigSep_fin_two, sepL_univ _ order (by decide) (by decide), sepL_univ _ order (by decide) (by decide)]
  rfl

/-! ### The launch credit -/

theorem recv_inj (p q : P) (h : SemLoc.dma (sig := sig) (recvS p) = .dma (recvS q)) : p = q := by
  have := (kind_recv p).symm.trans ((congrArg kind h).trans (kind_recv q))
  injection this
theorem recv_ne_bar (p : P) : SemLoc.dma (sig := sig) (recvS p) ≠ .reg barS := fun h => by cases h

theorem pr_iff (s : Fin 3) (d c : Dev nD) : c = pr s d ↔ d = pr s.rev c :=
  ⟨fun h => by rw [h, pr_rev], fun h => by rw [h, pr_rev']⟩

theorem owed_at (d c : Dev nD) (p : P) : ∀ l : List P, owed d l (recvCell c p) () = if d = pr p.1.rev c then l.count p * N else 0
  | [] => by
    show (0 : ℕ) = _
    rw [List.count_nil, Nat.zero_mul, ite_self]
  | q :: l => by
    show owed d l (recvCell c p) () + tallyAt (recvCell (pr q.1 d) q) () N (recvCell c p) () = _
    rw [owed_at d c p l, tallyAt_apply, List.count_cons]
    by_cases hq : q = p
    · subst hq
      by_cases hd : d = pr q.1.rev c
      · rw [if_pos hd, if_pos hd, if_pos ⟨by rw [← (pr_iff q.1 d c).mpr hd], rfl⟩, if_pos (beq_self_eq_true q), Nat.succ_mul]
      · have hn : ¬(recvCell c q = recvCell (pr q.1 d) q ∧ () = ()) := fun h => hd ((pr_iff q.1 d c).mp (congrArg (fun g : GSem nD τ sig => g.1.1) h.1))
        rw [if_neg hd, if_neg hd, if_neg hn]
    · have hn : ¬(recvCell c p = recvCell (pr q.1 d) q ∧ () = ()) := fun h => hq (recv_inj p q (congrArg Prod.snd h.1)).symm
      have hb : ¬((q == p) = true) := fun h => hq (eq_of_beq h)
      rw [if_neg hn, if_neg hb, Nat.add_zero, Nat.add_zero]

theorem owed_at_bar (d c : Dev nD) : ∀ l : List P, owed d l (barCell c) () = 0
  | [] => rfl
  | q :: l => by
    show owed d l (barCell c) () + tallyAt (recvCell (pr q.1 d) q) () N (barCell c) () = 0
    rw [owed_at_bar d c l, tallyAt_ne_cell (fun h => recv_ne_bar q (congrArg Prod.snd h).symm), Finsupp.zero_apply, Nat.add_zero]

theorem bar_at (d c : Dev nD) (s : Fin 3) : tallyAt (barCell (pr s d)) () 1 (barCell c) () = if d = pr s.rev c then 1 else 0 := by
  rw [tallyAt_apply]
  by_cases h : d = pr s.rev c
  · rw [if_pos h, if_pos ⟨by rw [← (pr_iff s d c).mpr h], rfl⟩]
  · rw [if_neg h, if_neg (fun e => h ((pr_iff s d c).mp (congrArg (fun g : GSem nD τ sig => g.1.1) e.1)))]

theorem owed_bar (d c : Dev nD) : O₀ d (barCell c) () = ((if d = pr (Fin.rev 2) c then 1 else 0) + (if d = pr (Fin.rev 1) c then 1 else 0)) + (if d = pr (Fin.rev 0) c then 1 else 0) := by
  show ((owed d order (barCell c) () + tallyAt (barCell (pr 2 d)) () 1 (barCell c) ()) + tallyAt (barCell (pr 1 d)) () 1 (barCell c) ())
    + tallyAt (barCell (pr 0 d)) () 1 (barCell c) () = _
  rw [owed_at_bar, bar_at, bar_at, bar_at, Nat.zero_add]

theorem count_order : ∀ p : P, order.count p = 1 := by decide

theorem owed_recv (d c : Dev nD) (p : P) : O₀ d (recvCell c p) () = if d = pr p.1.rev c then N else 0 := by
  show ((owed d order (recvCell c p) () + tallyAt (barCell (pr 2 d)) () 1 (recvCell c p) ()) + tallyAt (barCell (pr 1 d)) () 1 (recvCell c p) ())
    + tallyAt (barCell (pr 0 d)) () 1 (recvCell c p) () = _
  rw [owed_at, count_order, Nat.one_mul, tallyAt_ne_cell (fun h => recv_ne_bar p (congrArg Prod.snd h)),
    tallyAt_ne_cell (fun h => recv_ne_bar p (congrArg Prod.snd h)), tallyAt_ne_cell (fun h => recv_ne_bar p (congrArg Prod.snd h)), Finsupp.zero_apply]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (c : Dev nD) (p : P) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_ite_eq' Finset.univ _ fun _ => N, if_pos (Finset.mem_univ _)]

omit [FloatOps F] in
theorem creds_intro (c : Dev nD) : (Pipeline.launchCred O₀ c : sProp 𝕄) ⊢ creds c := by
  unfold Pipeline.launchCred creds recvCred
  refine (BI.bigSep_subset (Finset.subset_univ (SemLoc.reg barS :: order.map fun p => SemLoc.dma (recvS p)).toFinset)).trans ?_
  rw [← sepL_eq _ _ (by decide), sepL_cons, launch_bar]
  have h : ∀ p : P, (cred (tallyOn (recvCell c p) (launchCredit (Pipeline.owing O₀) 0 (recvCell c p))) : sProp 𝕄)
      ⊢ cred (tallyAt (recvCell c p) () N) := fun p => Entails.of_eq (congrArg cred (launch_recv c p))
  show iprop(cred (tallyAt (barCell c) () 3) ∗ sepL (fun p => cred (tallyOn (recvCell c p) (launchCredit (Pipeline.owing O₀) 0 (recvCell c p)))) order)
    ⊢ (iprop(cred (tallyAt (barCell c) () 3) ∗ sepL (fun p => cred (tallyAt (recvCell c p) () N)) order) : sProp 𝕄)
  iintro ⟨H1, H2⟩
  isplitl [H1]; · iexact H1
  iapply (sepL_mono h order) $$ H2

end Cert.KernelIdealRun

end
-- ==== Proof.IMain.lean ====
/-
  The run: from the launch memory to what every buffer holds at the end.
-/
module

public import proofs.«01_k».proof.Proof.IDeal

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run -/

def T₀ (c : Dev nD) : sProp 𝕄 := iprop(StableHlo.held (c : Thread nD τ) bufs (W₀ m c) ∗ R₀ m c)
def Tₙ (c : Dev nD) : sProp 𝕄 := iprop(StableHlo.held (c : Thread nD τ) bufs (W₃ m c) ∗ semVal (barCell c) 0)

omit [FloatOps F] in
theorem bufs_held (c : Dev nD) (W : Valuation τ sig (Elt F)) :
    (unscopedBufs c (fun b => W b) : sProp 𝕄) = StableHlo.held (c : Thread nD τ) bufs W := by
  unfold unscopedBufs StableHlo.held bufs Pipeline.ucRefs StableHlo.tcRefs
  rw [Finset.filter_map, BI.bigSep_map]
  rfl

theorem unscoped_sems : (Finset.univ.filter fun sm : SemLoc sig => ¬ sm.isScoped .tc) = {SemLoc.reg barS} := by decide

omit [FloatOps F] in
theorem sems_eq (c : Dev nD) : (unscopedSems0 c : sProp 𝕄) = semVal (barCell c) 0 := by
  unfold unscopedSems0
  rw [unscoped_sems, BI.bigSep_singleton]

/-- What of a device's launch holdings is no part of the exchange's tokens. -/
def bundle (c : Dev nD) : sProp 𝕄 :=
  iprop(StableHlo.held (c : Thread nD τ) bufs (W₀ m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R₀ Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

def atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ onFirst launched c)

theorem core_launch (c : Dev nD) : atLaunch m ρ c ⊢ iprop(bundle m c ∗ (semVal (barCell c) 0 ∗ onFirst launched c)) := by
  unfold atLaunch bundle
  rw [show unscopedBufs c (fun b => m ((c : Thread nD τ).loc b)) = StableHlo.held (c : Thread nD τ) bufs (W₀ m c) from bufs_held c (W₀ m c), sems_eq]
  iintro ⟨Hh, Hus, HO, Hcr, Hp, HG⟩
  isplitl [Hh Hcr HO Hp]
  · isplitl [Hh]; · iexact Hh
    isplitl [Hcr]; · iapply (creds_intro c) $$ Hcr
    isplitl [HO]; · iexact HO
    iexists (ρ c); iexact Hp
  isplitl [Hus] <;> iassumption

theorem with_records {R : sProp (MT nD τ sig Unit (Elt F) ℕ UU ℕ)} [BI.Persistent R] {Φ Ψ : Dev nD → sProp (MT nD τ sig Unit (Elt F) ℕ UU ℕ)}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem init : iprop(bigSep Finset.univ (atLaunch m ρ) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hsplit : bigSep Finset.univ (atLaunch m ρ)
      ⊢ (iprop(bigSep Finset.univ (bundle m) ∗ (bigSep Finset.univ fun c : Dev nD => semVal (barCell c) 0) ∗ bigSep Finset.univ (onFirst launched)) : sProp 𝕄) := by
    rw [← bigSep_sep', ← bigSep_sep']
    exact bigSep_mono fun c _ => core_launch m ρ c
  have hjoin : iprop((bigSep Finset.univ fun c : Dev nD => atPos ER (barCell c) 0 ∅ 0) ∗ bigSep Finset.univ opens
        ∗ (bigSep Finset.univ fun c : Dev nD => iprop(barToks c ∗ sendToks c ∗ recvToks c)) ∗ bigSep Finset.univ (bundle m))
      ⊢ (bigSep Finset.univ fun c : Dev nD => iprop(linear c ∗ bundle m c) : sProp 𝕄) := by
    rw [bigSep_sep' Finset.univ (fun c : Dev nD => (linear c : sProp 𝕄))]
    unfold linear
    rw [bigSep_sep' Finset.univ (fun c : Dev nD => (atPos ER (barCell c) 0 ∅ 0 : sProp 𝕄)), bigSep_sep' Finset.univ (fun c : Dev nD => (opens c : sProp 𝕄))]
    iintro ⟨Ha, Hb, Hc, Hd⟩
    isplitr [Hd]
    · isplitl [Ha]; · iexact Ha
      isplitl [Hb]; · iexact Hb
      iexact Hc
    iexact Hd
  iintro ⟨H, -⟩
  ihave H' := hsplit $$ H
  icases H' with ⟨HB, Hv, HG⟩
  ihave Hu := (Entails.of_eq (bigSep_onFirst (launched (F := F)))) $$ HG
  imod (Rounds.fund_launch ER (Rd (Xm m)) disjoint_cells (fun g _ h => h) launchT) $$ [Hv Hu] with ⟨%κ, -, #Hinv, #Hr, Hat, Hopen, Htok⟩
  · isplitl [Hv]
    · iapply hv $$ Hv
    · unfold launched; iexact Hu
  imodintro
  iapply (with_records (R := records m κ) (Φ := fun c => iprop(linear c ∗ bundle m c)) fun c => T₀_intro m κ c)
  isplitr
  · unfold records
    isplitr; · iapply (invs_intro (Xm m) κ) $$ Hinv
    iexists barCells
    isplitr; · ipureintro; exact fun c => Finset.mem_map_of_mem barEmb (Finset.mem_univ c)
    iexact Hr
  iapply hjoin
  isplitl [Hat]; · iapply hat $$ Hat
  isplitl [Hopen]; · iapply (Entails.of_eq (opens_eq (F := F))) $$ Hopen
  isplitl [Htok]; · iapply (Entails.of_eq (toks_around (F := F))) $$ Htok
  iexact HB

theorem unscoped_eq : ∀ sm : SemLoc sig, sm.isScoped .tc = false → sm = .reg barS := by decide

theorem held_read (c : Dev nD) (W : Valuation τ sig (Elt F)) (b : Ref sig .tc) (hb : b.isScoped = false) :
    (StableHlo.held (c : Thread nD τ) bufs W : sProp 𝕄) ⊢ (((c : Thread nD τ).loc b) ↦{fullShare} W (Proc.devRef .tc b)) := by
  unfold StableHlo.held
  exact bigSep_elim (Finset.mem_filter.mpr ⟨StableHlo.devRef_mem_tcRefs _, fun h' => Bool.false_ne_true (hb.symm.trans h')⟩)

/-- What the run leaves of one device's buffers. -/
def readOut (c : Dev nD) (s : MemSt nD τ sig (Elt F)) : Prop :=
  (∀ b : Ref sig .tc, b.isScoped = false → s.mem ((c : Thread nD τ).loc b) = W₃ m c (Proc.devRef .tc b)) ∧ s.sem (barCell c) = 0

theorem read_one (c : Dev nD) (s' : Phys nD τ sig (Elt F)) (b : Ref sig .tc) (hb : b.isScoped = false) :
    iprop(StableHlo.held (c : Thread nD τ) bufs (W₃ m c) ∗ SI s') ⊢ (iprop(⌜s'.mem.mem ((c : Thread nD τ).loc b) = W₃ m c (Proc.devRef .tc b)⌝) : sProp 𝕄) := by
  iintro ⟨H, HSI⟩
  ihave H1 := (held_read c (W₃ m c) b hb) $$ H
  icombine HSI H1 gives %hx
  ipureintro
  exact Buf.eq_of_forall_mem_univ hx

theorem read_all (c : Dev nD) (s' : Phys nD τ sig (Elt F)) : iprop(StableHlo.held (c : Thread nD τ) bufs (W₃ m c) ∗ SI s')
    ⊢ (iprop(⌜∀ b : {b : Ref sig .tc // b.isScoped = false}, s'.mem.mem ((c : Thread nD τ).loc b.1) = W₃ m c (Proc.devRef .tc b.1)⌝) : sProp 𝕄) :=
  (Laws.forall_intro fun b : {b : Ref sig .tc // b.isScoped = false} => read_one m c s' b.1 b.2).trans Laws.pure_forall.2

theorem read_out (c : Dev nD) (s' : Phys nD τ sig (Elt F)) : iprop(Tₙ m c ∗ SI s') ⊢ (|={Set.univ}=> iprop(⌜readOut m c s'.mem⌝ ∗ SI s') : sProp 𝕄) := by
  unfold Tₙ
  iintro ⟨⟨Hh, Hb⟩, HSI⟩
  ihave %ha := (read_all m c s') $$ [Hh HSI]
  · isplitl [Hh] <;> iassumption
  icombine HSI Hb gives %hb
  imodintro
  isplitr
  · ipureintro
    exact ⟨fun b h => ha ⟨b, h⟩, by simpa using hb⟩
  iexact HSI

theorem W₃_W₂ (c : Dev nD) (b : Ref sig .tc) (h : b ≠ main_v8) (h' : b ≠ main_v9) : W₃ m c (Proc.devRef .tc b) = W₂ m c (Proc.devRef .tc b) := by
  unfold W₃
  refine StableHlo.after_of_forall_not_mem (b := Proc.devRef .tc b) _ _ (List.forall_iff_forall_mem.mp ?_)
  simp only [hostOps1, List.Forall, StableHlo.unary_writes, StableHlo.reshape_writes, Finset.mem_singleton]
  exact ⟨StableHlo.devRef_ne_of_ne h, StableHlo.devRef_ne_of_ne h'⟩

/-- The arguments end as launched. -/
theorem W₃_arg0 (c : Dev nD) : W₃ m c (Proc.devRef .tc main_arg0) = m ((c : Thread nD τ).loc main_arg0) :=
  (W₃_W₂ m c main_arg0 (by decide) (by decide)).trans ((W₂_ne m c _ (by decide)).trans (V_main_arg0 m c))
theorem W₃_arg1 (c : Dev nD) : W₃ m c (Proc.devRef .tc main_arg1) = m ((c : Thread nD τ).loc main_arg1) :=
  (W₃_W₂ m c main_arg1 (by decide) (by decide)).trans ((W₂_ne m c _ (by decide)).trans (V_main_arg1 m c))
theorem W₃_arg2 (c : Dev nD) : W₃ m c (Proc.devRef .tc main_arg2) = m ((c : Thread nD τ).loc main_arg2) :=
  (W₃_W₂ m c main_arg2 (by decide) (by decide)).trans ((W₂_ne m c _ (by decide)).trans (V_main_arg2 m c))

set_option backward.isDefEq.respectTransparency.types false in
/-- The run ends, with every buffer as the operations after the region leave it and every counter at zero. -/
theorem run_main : θ_run defs (onTc (τ := τ) (main (F := F))) (s₀ m ρ)
    (fun r => (∀ c : Dev nD, ∀ b : Ref sig .tc, b.isScoped = false → r.2.mem ((c : Thread nD τ).loc b) = W₃ m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := onFirst launched) (u₀ := u₀)
    (hu₀ := by
      unfold u₀
      iintro Hu
      ihave H := (ownU_pair _ _) $$ Hu
      icases H with ⟨HP, HX⟩
      imodintro
      isplitl [HP]; · iexact HP
      rw [bigSep_onFirst]; unfold launched; iexact HX)
    (T₀ := T₀ m) (Tₙ := Tₙ m)
    (hch := by
      refine ⟨fun c => .rfl, fun c => reg_pre m c, fun c => reg_post m c, fun c => ?_⟩
      have h : iprop(StableHlo.held (c : Thread nD τ) bufs (W₃ m c) ∗ R₁ c)
          ⊢ (iprop(Tₙ m c ∗ ∃ W, owes (c : Thread nD τ) (0 : CellTallies nD τ sig Unit) W) : sProp 𝕄) := by
        unfold Tₙ R₁ Yk
        iintro ⟨Hh, Hb0, HO⟩
        isplitr [HO]
        · isplitl [Hh] <;> iassumption
        · iexact HO
      exact h)
    (hinit := init m ρ)
    (QY := readOut m)
    (hfin := fun c s' => read_out m c s')
    (hQ := fun s h hs => ⟨fun c => (h c).1,
      sem_eq_zero hs fun c sm hsm => by
        obtain rfl := unscoped_eq sm hsm
        exact (h c).2⟩)

end Cert.KernelIdealRun

end
-- ==== Proof.Ref.lean ====
/-
  The run of the reference: every buffer ends at the fold of @main's operations over the launch memory, the result
  is the attention of the three arguments, and no operation writes an argument.
-/
module

public import proofs.«01_k».proof.Proof.Gen.ReferenceIdeal
public import Idealize.ShloMosaic.Lib.StableHlo.Run

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The scaled scores. -/
def scores (q : FVec F S8x1x8x64 .bf16) (k : FVec F S8x2048x8x64 .bf16) : FVec F S8x8x1x2048 .f32 :=
  mulf (Host.dotGeneral dot_S8x1x8x64_S8x2048x8x64_S8x8x1x2048_3_3_1_1_02_02 none (extf .f32 q bitsLt_bf16_f32) (extf .f32 k bitsLt_bf16_f32))
    (broadcastInDim S8x8x1x2048 ![] bcast_S_S8x8x1x2048 (constant S_ .f32 0x3E000000#32))

/-- A row's greatest score, along the row. -/
def spread (x : FVec F S8x8x1 .f32) : FVec F S8x8x1x2048 .f32 :=
  broadcastInDim S8x8x1x2048 ![0, 1, 2, 3] bcast_S8x8x1x1_S8x8x1x2048_0_1_2_3 (broadcastInDim S8x8x1x1 ![0, 1, 2] bcast_S8x8x1_S8x8x1x1_0_1_2 x)

def greatest (s : FVec F S8x8x1x2048 .f32) : FVec F S8x8x1 .f32 :=
  Host.reduce FloatOps.maximumf s (constant S_ .f32 0xFF800000#32) reducesTo_S8x8x1x2048_S8x8x1_d3 h_S_

/-- The exponentials of the scores, each row's greatest score taken off. -/
def weights (s : FVec F S8x8x1x2048 .f32) : FVec F S8x8x1x2048 .f32 := Host.exp (subf s (spread (greatest s)))

/-- The weights, each row's sum divided out. -/
def shares (w : FVec F S8x8x1x2048 .f32) : FVec F S8x8x1x2048 .f32 :=
  Host.divf w (spread (Host.reduceAdd w (constant S_ .f32 0x00000000#32) reducesTo_S8x8x1x2048_S8x8x1_d3 h_S_))

/-- The reference's result from its arguments. -/
def out (q : FVec F S8x1x8x64 .bf16) (k v : FVec F S8x2048x8x64 .bf16) : FVec F S8x1x8x64 .f32 :=
  transpose S8x1x8x64 [0, 3, 1, 2]
    (Host.dotGeneral dot_S8x2048x8x64_S8x8x1x2048_S8x8x64x1_1_3_3_2_02_01 none (extf .f32 v bitsLt_bf16_f32) (shares (weights (scores q k))))
    transposes_S8x8x64x1_S8x1x8x64_0_3_1_2

/-- @main's operations, in order. -/
abbrev ops : List (HloOp τ sig (Elt F)) :=
  [ unary main_arg0 main_v0 (extf .f32 · bitsLt_bf16_f32),
    unary main_arg1 main_v1 (extf .f32 · bitsLt_bf16_f32),
    unary main_arg2 main_v2 (extf .f32 · bitsLt_bf16_f32),
    binary main_v0 main_v1 main_v3 (fun l r => Host.dotGeneral dot_S8x1x8x64_S8x2048x8x64_S8x8x1x2048_3_3_1_1_02_02 none l r),
    nullary main_cst (constant S_ .f32 0x3E000000#32),
    unary main_cst main_v4 (broadcastInDim S8x8x1x2048 ![] bcast_S_S8x8x1x2048),
    binary main_v3 main_v4 main_v5 mulf,
    nullary main_cst_0 (constant S_ .f32 0xFF800000#32),
    binary main_v5 main_cst_0 main_v6 (fun x v => Host.reduce FloatOps.maximumf x v reducesTo_S8x8x1x2048_S8x8x1_d3 h_S_),
    unary main_v6 main_v7 (broadcastInDim S8x8x1x1 ![0, 1, 2] bcast_S8x8x1_S8x8x1x1_0_1_2),
    unary main_v7 main_v8 (broadcastInDim S8x8x1x2048 ![0, 1, 2, 3] bcast_S8x8x1x1_S8x8x1x2048_0_1_2_3),
    binary main_v5 main_v8 main_v9 subf,
    unary main_v9 main_v10 Host.exp,
    nullary main_cst_1 (constant S_ .f32 0x00000000#32),
    binary main_v10 main_cst_1 main_v11 (fun x v => Host.reduceAdd x v reducesTo_S8x8x1x2048_S8x8x1_d3 h_S_),
    unary main_v11 main_v12 (broadcastInDim S8x8x1x1 ![0, 1, 2] bcast_S8x8x1_S8x8x1x1_0_1_2),
    unary main_v12 main_v13 (broadcastInDim S8x8x1x2048 ![0, 1, 2, 3] bcast_S8x8x1x1_S8x8x1x2048_0_1_2_3),
    binary main_v10 main_v13 main_v14 Host.divf,
    binary main_v2 main_v14 main_v15 (fun l r => Host.dotGeneral dot_S8x2048x8x64_S8x8x1x2048_S8x8x64x1_1_3_3_2_02_01 none l r),
    unary main_v15 main_v16 (transpose S8x1x8x64 [0, 3, 1, 2] · transposes_S8x8x64x1_S8x1x8x64_0_3_1_2) ]

theorem main_eq (c : Dev nD) : main (F := F) c = seq ops := rfl

set_option maxHeartbeats 1000000 in
/-- The fold of the operations, at the result's buffer. -/
theorem out_eq (V : Valuation τ sig (Elt F)) :
    after ops V (main_v16 : DevRef τ sig) = out (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.Forall]
  refine ⟨?_, ?_, ?_, ?_, ?_, ?_, ?_, ?_, ?_, ?_, ?_, ?_, ?_, ?_, ?_, ?_, ?_, ?_, ?_, ?_⟩ <;>
    first | exact unary_bufs_sub .. | exact binary_bufs_sub .. | exact nullary_bufs_sub ..

theorem no_sem (s : SemLoc sig) : False := by rcases s with ⟨_, i⟩ | ⟨_, i⟩ <;> exact Nat.not_lt_zero _ i

/-- The reference runs: the result is the attention of the arguments, the arguments stay and no counter moves. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v16)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun _ h => ⟨fun c => ⟨(h c main_v16).trans (out_eq _), (h c main_arg0).trans (arg0_eq _),
      (h c main_arg1).trans (arg1_eq _), (h c main_arg2).trans (arg2_eq _)⟩, funext fun g => (no_sem g.2).elim⟩)
    (run_seq scopedRefs_eq scopedSems_eq defs main (fun _ => ops) main_eq (fun _ => ops_sub) m ρ)

end Cert.RefRun

end
-- ==== Proof.Facts.lean ====
/-
  The side conditions that the precondition states, at each program's shapes.
-/
module

public import proofs.«01_k».proof.Pre_finite_queries_and_keys_KernelIdeal
public import proofs.«01_k».proof.Pre_finite_queries_and_keys_ReferenceIdeal

@[expose] public section

namespace Cert.PreFacts

theorem blocks : Cert.Pre_finite_queries_and_keys_KernelIdeal.Facts where
  bcast_S_S8x1x8x64 := by decide
  reducesTo_S8x1x8x64_S_d0_1_2_3 := by decide
  h_S_ := by decide
  bcast_S_S8x512x8x64 := by decide
  reducesTo_S8x512x8x64_S_d0_1_2_3 := by decide

theorem whole : Cert.Pre_finite_queries_and_keys_ReferenceIdeal.Facts where
  bcast_S_S8x1x8x64 := by decide
  reducesTo_S8x1x8x64_S_d0_1_2_3 := by decide
  h_S_ := by decide
  bcast_S_S8x2048x8x64 := by decide
  reducesTo_S8x2048x8x64_S_d0_1_2_3 := by decide

end Cert.PreFacts
-- ==== Proof.VMath.lean ====
/-
  Attention in four blocks, over the extended reals: the four blocks' greatest scores, sums and weighted sums, brought
  to the common greatest score and divided, are the whole row's weighted sum. The scores are real; the weighted
  numbers may be infinite.
-/
module

public import Idealize.ShloMosaic.PureOps.Ideal
public import Mathlib.Data.EReal.Operations
public import Mathlib.Data.EReal.Inv

@[expose] public section

noncomputable section

namespace Cert.VMath

open Idealize.ShloMosaic

/-- A real that is not negative multiplies into a sum. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is a real. -/
theorem sup_coe {ι : Type} (s : Finset ι) (hs : s.Nonempty) (f : ι → ℝ) : (s.sup fun i => (f i : EReal)) = ((s.sup' hs f : ℝ) : EReal) := by
  apply le_antisymm
  · exact Finset.sup_le fun i hi => by exact_mod_cast Finset.le_sup' f hi
  · obtain ⟨i, hi, e⟩ := Finset.exists_mem_eq_sup' hs f
    rw [e]; exact Finset.le_sup (f := fun i => (f i : EReal)) hi

theorem exp_sub (a b : ℝ) : Ideal.exp ((a : EReal) - (b : EReal)) = ((Real.exp (a - b) : ℝ) : EReal) := by
  rw [← EReal.coe_sub]; rfl

section
variable {n : ℕ}

/-- A row's greatest score, its weights' sum, and the sum of the numbers it weighs. -/
def top (s : Fin n → EReal) : EReal := Finset.univ.sup s
def wt (s : Fin n → EReal) (k : Fin n) : EReal := Ideal.exp (s k - top s)
def den (s : Fin n → EReal) : EReal := ∑ k, wt s k
def num (s v : Fin n → EReal) : EReal := ∑ k, v k * wt s k
/-- The row's attention. -/
def att (s v : Fin n → EReal) : EReal := ∑ k, v k * Ideal.div (wt s k) (den s)
end

/-- Four blocks' results brought to the greatest of their greatest scores. -/
def top4 (m : Fin 4 → EReal) : EReal := max (max (max (m 0) (m 1)) (m 2)) (m 3)
def merge (m x : Fin 4 → EReal) : EReal :=
  x 0 * Ideal.exp (m 0 - top4 m) + x 1 * Ideal.exp (m 1 - top4 m) + x 2 * Ideal.exp (m 2 - top4 m) + x 3 * Ideal.exp (m 3 - top4 m)

theorem top4_sup (m : Fin 4 → EReal) : top4 m = Finset.univ.sup m := by
  apply le_antisymm
  · unfold top4
    exact max_le (max_le (max_le (Finset.le_sup (Finset.mem_univ _)) (Finset.le_sup (Finset.mem_univ _))) (Finset.le_sup (Finset.mem_univ _)))
      (Finset.le_sup (Finset.mem_univ _))
  · refine Finset.sup_le fun i _ => ?_
    unfold top4
    fin_cases i <;> simp

theorem merge_sum (m x : Fin 4 → EReal) : merge m x = ∑ t, x t * Ideal.exp (m t - top4 m) := by
  unfold merge; rw [Fin.sum_univ_four]

/-- The order of the blocks does not matter. -/
theorem top4_turn (σ : Equiv.Perm (Fin 4)) (m : Fin 4 → EReal) : top4 (m ∘ σ) = top4 m := by
  rw [top4_sup, top4_sup]
  apply le_antisymm
  · exact Finset.sup_le fun i _ => Finset.le_sup (f := m) (Finset.mem_univ (σ i))
  · refine Finset.sup_le fun i _ => ?_
    have h := Finset.le_sup (f := m ∘ σ) (Finset.mem_univ (σ.symm i))
    rwa [Function.comp_apply, Equiv.apply_symm_apply] at h

theorem merge_turn (σ : Equiv.Perm (Fin 4)) (m x : Fin 4 → EReal) : merge (m ∘ σ) (x ∘ σ) = merge m x := by
  rw [merge_sum, merge_sum, top4_turn]
  exact Equiv.sum_comp σ fun t => x t * Ideal.exp (m t - top4 m)

/-- A column of the whole row from its block and its place there. -/
def col (z : Fin 4) (k : Fin 512) : Fin 2048 := ⟨512 * z.val + k.val, by omega⟩

def colEquiv : Fin 4 × Fin 512 ≃ Fin 2048 where
  toFun p := col p.1 p.2
  invFun j := (⟨j.val / 512, by omega⟩, ⟨j.val % 512, by omega⟩)
  left_inv p := by
    rcases p with ⟨z, k⟩
    refine Prod.ext (Fin.ext ?_) (Fin.ext ?_)
    · show (512 * z.val + k.val) / 512 = z.val; omega
    · show (512 * z.val + k.val) % 512 = k.val; omega
  right_inv j := Fin.ext (by show 512 * (j.val / 512) + j.val % 512 = j.val; omega)

theorem sum_cols {M : Type} [AddCommMonoid M] (f : Fin 2048 → M) : ∑ j, f j = ∑ z, ∑ k, f (col z k) := by
  rw [← Equiv.sum_comp colEquiv f, Fintype.sum_prod_type]; rfl

theorem sup_cols (f : Fin 2048 → EReal) : Finset.univ.sup f = Finset.univ.sup fun z => Finset.univ.sup fun k => f (col z k) := by
  apply le_antisymm
  · refine Finset.sup_le fun j _ => ?_
    obtain ⟨⟨z, k⟩, rfl⟩ := colEquiv.surjective j
    exact (Finset.le_sup (f := fun k => f (col z k)) (Finset.mem_univ k)).trans
      (Finset.le_sup (f := fun z => Finset.univ.sup fun k => f (col z k)) (Finset.mem_univ z))
  · exact Finset.sup_le fun z _ => Finset.sup_le fun k _ => Finset.le_sup (Finset.mem_univ _)

/-- The attention of a row in four blocks. -/
theorem attention (g : Fin 2048 → ℝ) (v : Fin 2048 → EReal) (s w : Fin 4 → Fin 512 → EReal)
    (hs : ∀ z k, s z k = (g (col z k) : EReal)) (hw : ∀ z k, w z k = v (col z k)) :
    Ideal.div (merge (fun z => top (s z)) fun z => num (s z) (w z)) (merge (fun z => top (s z)) fun z => den (s z)) = att (fun j => (g j : EReal)) v := by
  obtain rfl : s = fun z k => (g (col z k) : EReal) := funext fun z => funext fun k => hs z k
  obtain rfl : w = fun z k => v (col z k) := funext fun z => funext fun k => hw z k
  have hM : top4 (fun z => top fun k => (g (col z k) : EReal)) = top fun j => (g j : EReal) := by
    rw [top4_sup]; unfold top; exact (sup_cols fun j => (g j : EReal)).symm
  obtain ⟨M, eM⟩ : ∃ M : ℝ, (top fun j => (g j : EReal)) = (M : EReal) := ⟨_, sup_coe Finset.univ ⟨0, Finset.mem_univ _⟩ g⟩
  have hm : ∀ z, ∃ m : ℝ, (top fun k => (g (col z k) : EReal)) = (m : EReal) := fun z => ⟨_, sup_coe Finset.univ ⟨0, Finset.mem_univ _⟩ fun k => g (col z k)⟩
  choose m em using hm
  have ew : ∀ z k, wt (fun k => (g (col z k) : EReal)) k = ((Real.exp (g (col z k) - m z) : ℝ) : EReal) := fun z k => by
    unfold wt; rw [em]; exact exp_sub _ _
  have eW : ∀ j, wt (fun j => (g j : EReal)) j = ((Real.exp (g j - M) : ℝ) : EReal) := fun j => by
    unfold wt; rw [eM]; exact exp_sub _ _
  have ec : ∀ z, Ideal.exp ((top fun k => (g (col z k) : EReal)) - (M : EReal)) = ((Real.exp (m z - M) : ℝ) : EReal) := fun z => by
    rw [em]; exact exp_sub _ _
  have step : ∀ z k, ((Real.exp (g (col z k) - m z) : ℝ) : EReal) * ((Real.exp (m z - M) : ℝ) : EReal) = ((Real.exp (g (col z k) - M) : ℝ) : EReal) := fun z k => by
    rw [← EReal.coe_mul, ← Real.exp_add, show g (col z k) - m z + (m z - M) = g (col z k) - M by ring]
  have eN : merge (fun z => top fun k => (g (col z k) : EReal)) (fun z => num (fun k => (g (col z k) : EReal)) fun k => v (col z k))
      = ∑ j, v j * ((Real.exp (g j - M) : ℝ) : EReal) := by
    rw [merge_sum, hM, eM, sum_cols]
    refine Finset.sum_congr rfl fun z _ => ?_
    rw [ec]; unfold num
    rw [sum_mul_coe _ _ (Real.exp_pos _).le]
    exact Finset.sum_congr rfl fun k _ => by rw [ew, mul_assoc, step]
  have eD : merge (fun z => top fun k => (g (col z k) : EReal)) (fun z => den (fun k => (g (col z k) : EReal)))
      = ((∑ j, Real.exp (g j - M) : ℝ) : EReal) := by
    rw [merge_sum, hM, eM, coe_sum, sum_cols]
    refine Finset.sum_congr rfl fun z _ => ?_
    rw [ec]; unfold den
    rw [sum_mul_coe _ _ (Real.exp_pos _).le]
    exact Finset.sum_congr rfl fun k _ => by rw [ew, step]
  have eL : den (fun j => (g j : EReal)) = ((∑ j, Real.exp (g j - M) : ℝ) : EReal) := by
    unfold den; rw [coe_sum]; exact Finset.sum_congr rfl fun j _ => eW j
  have hL : 0 < ∑ j, Real.exp (g j - M) := Finset.sum_pos (fun j _ => Real.exp_pos _) ⟨0, Finset.mem_univ _⟩
  have hz : ((∑ j, Real.exp (g j - M) : ℝ) : EReal) ≠ 0 := by exact_mod_cast hL.ne'
  unfold att
  rw [eN, eD, eL]
  unfold Ideal.div
  simp only [if_neg hz]
  rw [← EReal.coe_inv, sum_mul_coe _ _ (inv_nonneg.mpr hL.le)]
  exact Finset.sum_congr rfl fun j _ => by rw [eW, mul_assoc]

end Cert.VMath

end
-- ==== Proof.VKernel.lean ====
/-
  The kernel's arithmetic at an index, over the extended reals: what a device computes of its own block, and the
  merge of the four blocks' results.
-/
module

public import proofs.«01_k».proof.Proof.IEnd
public import proofs.«01_k».proof.Proof.VMath
public import Idealize.ShloMosaic.Lib.Pointwise

@[expose] public section

set_option maxRecDepth 16384

noncomputable section

namespace Cert.VKernel

open Cert.KernelIdeal Cert.KernelIdeal.Gen Cert.KernelIdealRun Cert.VMath
open Idealize.ShloMosaic

theorem bits_low : Ideal.ofBits .f32 0xFF800000#32 = ⊥ := by
  simp [Ideal.ofBits, Ideal.ieee]

/-- The scale that the scores are multiplied by. -/
def scale : EReal := Ideal.ofBits .f32 0x3E000000#32

/-- A group's scores in one row. -/
def score16 (q : Vec Ideal S16x64 .bf16) (k : Vec Ideal S16x64x512 .bf16) (r : Fin 16) (x : Fin 512) : EReal :=
  (∑ d : Fin 64, (k (ix3 r d x) : EReal) * q (ix2 r d)) * scale

theorem pay5_at (q : Vec Ideal S16x64 .bf16) (k v : Vec Ideal S16x64x512 .bf16) (r : Fin 16) (j : Fin 66) :
    (k0_pay5 (F := Ideal) q k v (ix2 r j) : EReal)
      = if h : j.val < 64 then num (score16 q k r) (fun x => v (ix3 r ⟨j.val, h⟩ x))
        else if j.val - 64 < 1 then top (score16 q k r) else den (score16 q k r) := by
  pointwise [k0_pay5]
  simp only [bits_low]
  rfl

/-- A device's scores in one row, and the numbers it weighs. -/
def kscore (x : Ins Ideal) (i : Fin 64) (kk : Fin 512) : EReal := (∑ d : Fin 64, (x.k (ix3 i d kk) : EReal) * x.q (ix2 i d)) * scale
def kval (x : Ins Ideal) (i d : Fin 64) (kk : Fin 512) : EReal := x.v (ix3 i d kk)

theorem qRows_at (x : Ins Ideal) (g : Fin 4) (r : Fin 16) (d : Fin 64) : qRows x g (ix2 r d) = x.q (ix2 ⟨16 * g.val + r.val, by omega⟩ d) := by
  unfold qRows; congr 1; funext a; match a with
  | ⟨0, _⟩ => exact Fin.ext (show 16 * g.val + 1 * r.val = 16 * g.val + r.val by omega)
  | ⟨1, _⟩ => exact Fin.ext (show 0 + 1 * d.val = d.val by omega)
theorem kRows_at (x : Ins Ideal) (g : Fin 4) (r : Fin 16) (d : Fin 64) (kk : Fin 512) :
    kRows x g (ix3 r d kk) = x.k (ix3 ⟨16 * g.val + r.val, by omega⟩ d kk) := by
  unfold kRows; congr 1; funext a; match a with
  | ⟨0, _⟩ => exact Fin.ext (show 16 * g.val + 1 * r.val = 16 * g.val + r.val by omega)
  | ⟨1, _⟩ => exact Fin.ext (show 0 + 1 * d.val = d.val by omega)
  | ⟨2, _⟩ => exact Fin.ext (show 0 + 1 * kk.val = kk.val by omega)
theorem vRows_at (x : Ins Ideal) (g : Fin 4) (r : Fin 16) (d : Fin 64) (kk : Fin 512) :
    vRows x g (ix3 r d kk) = x.v (ix3 ⟨16 * g.val + r.val, by omega⟩ d kk) := by
  unfold vRows; congr 1; funext a; match a with
  | ⟨0, _⟩ => exact Fin.ext (show 16 * g.val + 1 * r.val = 16 * g.val + r.val by omega)
  | ⟨1, _⟩ => exact Fin.ext (show 0 + 1 * d.val = d.val by omega)
  | ⟨2, _⟩ => exact Fin.ext (show 0 + 1 * kk.val = kk.val by omega)

theorem row_back (i : Fin 64) : (⟨16 * (i.val / 16) + i.val % 16, by omega⟩ : Fin 64) = i := Fin.ext (by show 16 * (i.val / 16) + i.val % 16 = i.val; omega)

theorem score16_rows (x : Ins Ideal) (i : Fin 64) :
    score16 (qRows x ⟨i.val / 16, row_lt i⟩) (kRows x ⟨i.val / 16, row_lt i⟩) ⟨i.val % 16, row_mod i⟩ = kscore x i := by
  funext kk
  unfold score16 kscore
  congr 1
  exact Finset.sum_congr rfl fun d _ => by rw [qRows_at, kRows_at]; simp only [row_back]

theorem locF_at (x : Ins Ideal) (i : Fin 64) (j : Fin 66) :
    (locF x (ix2 i j) : EReal)
      = if h : j.val < 64 then num (kscore x i) (kval x i ⟨j.val, h⟩)
        else if j.val - 64 < 1 then top (kscore x i) else den (kscore x i) := by
  have e : locF x (ix2 i j) = k0_pay5 (F := Ideal) (qRows x ⟨i.val / 16, row_lt i⟩) (kRows x ⟨i.val / 16, row_lt i⟩) (vRows x ⟨i.val / 16, row_lt i⟩)
      (ix2 ⟨i.val % 16, row_mod i⟩ j) := rfl
  rw [e, pay5_at, score16_rows]
  have ev : ∀ d : Fin 64, (fun kk => vRows x ⟨i.val / 16, row_lt i⟩ (ix3 ⟨i.val % 16, row_mod i⟩ d kk)) = kval x i d := fun d => by
    funext kk; rw [vRows_at]; simp only [row_back]; rfl
  simp only [ev]

theorem locF_num (x : Ins Ideal) (i d : Fin 64) : (locF x (ix2 i ⟨d.val, by omega⟩) : EReal) = num (kscore x i) (kval x i d) := by
  rw [locF_at]; exact dif_pos d.isLt
theorem locF_top (x : Ins Ideal) (i : Fin 64) : (locF x (ix2 i ⟨64, by omega⟩) : EReal) = top (kscore x i) := by
  rw [locF_at]; rfl
theorem locF_den (x : Ins Ideal) (i : Fin 64) : (locF x (ix2 i ⟨65, by omega⟩) : EReal) = den (kscore x i) := by
  rw [locF_at]; rfl

variable (X : Dev nD → Ins Ideal)

theorem commF_at (c : Dev nD) (s : Fin 3) (i : Fin 64) (j : Fin 66) : commF X c (ix3 s i j) = locF (X (pr s.rev c)) (ix2 i j) := rfl

theorem maxAt_at (c : Dev nD) (s : Fin 3) (i : Fin 64) : (maxAt X c s (ix3 0 i 0) : EReal) = top (kscore (X (pr s.rev c)) i) := by
  rw [← locF_top, ← commF_at]
  unfold maxAt; congr 1; funext a; match a with
  | ⟨0, _⟩ => exact Fin.ext (show s.val + 1 * 0 = s.val by omega)
  | ⟨1, _⟩ => exact Fin.ext (show 0 + 1 * i.val = i.val by omega)
  | ⟨2, _⟩ => exact Fin.ext (show 64 + 1 * 0 = 64 by omega)
theorem sumAt_at (c : Dev nD) (s : Fin 3) (i : Fin 64) : (sumAt X c s (ix3 0 i 0) : EReal) = den (kscore (X (pr s.rev c)) i) := by
  rw [← locF_den, ← commF_at]
  unfold sumAt; congr 1; funext a; match a with
  | ⟨0, _⟩ => exact Fin.ext (show s.val + 1 * 0 = s.val by omega)
  | ⟨1, _⟩ => exact Fin.ext (show 0 + 1 * i.val = i.val by omega)
  | ⟨2, _⟩ => exact Fin.ext (show 65 + 1 * 0 = 65 by omega)
theorem numAt_at (c : Dev nD) (s : Fin 3) (i d : Fin 64) : (numAt X c s (ix3 0 i d) : EReal) = num (kscore (X (pr s.rev c)) i) (kval (X (pr s.rev c)) i d) := by
  rw [← locF_num, ← commF_at]
  unfold numAt; congr 1; funext a; match a with
  | ⟨0, _⟩ => exact Fin.ext (show s.val + 1 * 0 = s.val by omega)
  | ⟨1, _⟩ => exact Fin.ext (show 0 + 1 * i.val = i.val by omega)
  | ⟨2, _⟩ => exact Fin.ext (show 0 + 1 * d.val = d.val by omega)

/-- The devices whose blocks a device merges, in the order it does. -/
def dv (c : Dev nD) : Fin 4 → Dev nD := ![c, pr 2 c, pr 1 c, pr 0 c]

theorem own_top (c : Dev nD) (i : Fin 64) : (k0_pay7 (F := Ideal) (locF (X c)) (ix2 i 0) : EReal) = top (kscore (X c) i) := by
  rw [← locF_top]
  pointwise [k0_pay7]

theorem max4_at (c : Dev nD) (i : Fin 64) : (max4 X c (ix2 i 0) : EReal) = top4 fun t => top (kscore (X (dv c t)) i) := by
  unfold max4 max2
  pointwise [k0_pay9, k0_pay8]
  rw [own_top, maxAt_at, maxAt_at, maxAt_at]
  rfl

theorem num3_at (c : Dev nD) (i d : Fin 64) : (num3 X c (ix2 i d) : EReal)
    = num (kscore (X c) i) (kval (X c) i d) * Ideal.exp (top (kscore (X c) i) - max4 X c (ix2 i 0))
      + num (kscore (X (pr 2 c)) i) (kval (X (pr 2 c)) i d) * Ideal.exp (top (kscore (X (pr 2 c)) i) - max4 X c (ix2 i 0))
      + num (kscore (X (pr 1 c)) i) (kval (X (pr 1 c)) i d) * Ideal.exp (top (kscore (X (pr 1 c)) i) - max4 X c (ix2 i 0)) := by
  unfold num3
  pointwise [k0_pay13, k0_pay10, k0_pay11, k0_pay12]
  rw [own_top, maxAt_at, maxAt_at, numAt_at, numAt_at, ← locF_num (X c) i d]
  rfl

theorem sum3_at (c : Dev nD) (i : Fin 64) : (sum3 X c (ix2 i 0) : EReal)
    = den (kscore (X c) i) * Ideal.exp (top (kscore (X c) i) - max4 X c (ix2 i 0))
      + den (kscore (X (pr 2 c)) i) * Ideal.exp (top (kscore (X (pr 2 c)) i) - max4 X c (ix2 i 0))
      + den (kscore (X (pr 1 c)) i) * Ideal.exp (top (kscore (X (pr 1 c)) i) - max4 X c (ix2 i 0)) := by
  unfold sum3
  pointwise [k0_pay14, k0_pay10, k0_pay11, k0_pay12]
  rw [own_top, maxAt_at, maxAt_at, sumAt_at, sumAt_at, ← locF_den (X c) i]
  rfl

/-- What the kernel stores, at an index. -/
theorem outF_at (c : Dev nD) (i d : Fin 64) : (outF X c (ix2 i d) : EReal)
    = Ideal.div (merge (fun t => top (kscore (X (dv c t)) i)) fun t => num (kscore (X (dv c t)) i) (kval (X (dv c t)) i d))
        (merge (fun t => top (kscore (X (dv c t)) i)) fun t => den (kscore (X (dv c t)) i)) := by
  unfold outF
  pointwise [k0_pay15]
  rw [num3_at, sum3_at, maxAt_at, sumAt_at, numAt_at, max4_at]
  rfl

end Cert.VKernel

end
-- ==== Proof.VRef.lean ====
/-
  The reference's result at an index, over the extended reals.
-/
module

public import proofs.«01_k».proof.Proof.Ref
public import proofs.«01_k».proof.Proof.VMath
public import Idealize.ShloMosaic.Lib.Pointwise

@[expose] public section

set_option maxRecDepth 16384

noncomputable section

namespace Cert.VRef

open Cert.ReferenceIdeal Cert.ReferenceIdeal.Gen Cert.RefRun Cert.VMath
open Idealize.ShloMosaic

theorem bits_low : Ideal.ofBits .f32 0xFF800000#32 = ⊥ := by
  simp [Ideal.ofBits, Ideal.ieee]

theorem scores_at (q : FVec Ideal S8x1x8x64 .bf16) (k : FVec Ideal S8x2048x8x64 .bf16) (b h : Fin 8) (j : Fin 2048) :
    (scores q k (ix4 b h 0 j) : EReal) = (∑ x : Fin 64, (q (ix4 b 0 h x) : EReal) * k (ix4 b j h x)) * Ideal.ofBits .f32 0x3E000000#32 := by
  pointwise [scores]

theorem weights_at (s : FVec Ideal S8x8x1x2048 .f32) (b h : Fin 8) (j : Fin 2048) :
    (weights s (ix4 b h 0 j) : EReal) = wt (fun j => s (ix4 b h 0 j)) j := by
  pointwise [weights, spread, greatest]
  rw [bits_low]
  rfl

theorem shares_at (w : FVec Ideal S8x8x1x2048 .f32) (b h : Fin 8) (j : Fin 2048) :
    (shares w (ix4 b h 0 j) : EReal) = Ideal.div (w (ix4 b h 0 j)) (∑ j : Fin 2048, (w (ix4 b h 0 j) : EReal)) := by
  pointwise [shares, spread]

theorem out_at (q : FVec Ideal S8x1x8x64 .bf16) (k v : FVec Ideal S8x2048x8x64 .bf16) (b h : Fin 8) (d : Fin 64) :
    (out q k v (ix4 b 0 h d) : EReal) = att (fun j => scores q k (ix4 b h 0 j)) (fun j => v (ix4 b j h d)) := by
  pointwise [out]
  refine Finset.sum_congr rfl fun j _ => ?_
  rw [shares_at, weights_at]
  simp only [weights_at]
  rfl

end Cert.VRef

end
-- ==== Proof.VHost.lean ====
/-
  The host operations around the kernel at an index: the operands from a device's arguments, the result from what the
  kernel stores.
-/
module

public import proofs.«01_k».proof.Proof.IMain
public import Idealize.ShloMosaic.Lib.Pointwise

@[expose] public section

set_option maxRecDepth 16384

noncomputable section

namespace Cert.VHost

open Cert.KernelIdeal Cert.KernelIdeal.Gen Cert.KernelIdealRun
open Idealize.ShloMosaic Idealize.ShloMosaic.TcCoe Idealize.ShloMosaic.StableHlo

variable (m : (ℓ : Loc nD τ sig) → Buf (Elt Ideal) ℓ) (c : Dev nD)

/-- A row of the kernel's arrays from its batch and its head. -/
def row (b h : Fin 8) : Fin 64 := ⟨b.val * 8 + h.val, by omega⟩

theorem q_eq : (Xm m c).q = shapeCast S64x64 (transpose S8x8x1x64 [0, 2, 1, 3] (m ((c.tc : Thread nD τ).loc main_arg0)) transposes_S8x1x8x64_S8x8x1x64_0_2_1_3)
    shapeCasts_S8x8x1x64_S64x64 := by
  show after hostOps0 (W₀ m c) (Proc.devRef .tc main_v6) = _
  after_results
  rfl
theorem k_eq : (Xm m c).k = shapeCast S64x64x512 (transpose S8x8x64x512 [0, 2, 3, 1] (m ((c.tc : Thread nD τ).loc main_arg1)) transposes_S8x512x8x64_S8x8x64x512_0_2_3_1)
    shapeCasts_S8x8x64x512_S64x64x512 := by
  show after hostOps0 (W₀ m c) (Proc.devRef .tc main_v2) = _
  after_results
  rfl
theorem v_eq : (Xm m c).v = shapeCast S64x64x512 (transpose S8x8x64x512 [0, 2, 3, 1] (m ((c.tc : Thread nD τ).loc main_arg2)) transposes_S8x512x8x64_S8x8x64x512_0_2_3_1)
    shapeCasts_S8x8x64x512_S64x64x512 := by
  show after hostOps0 (W₀ m c) (Proc.devRef .tc main_v4) = _
  after_results
  rfl
theorem out_eq : W₃ m c (Proc.devRef .tc main_v9) = broadcastInDim S8x1x8x64 ![0, 2, 3] bcast_S8x8x64_S8x1x8x64_0_2_3
    (shapeCast S8x8x64 (outF (Xm m) c) shapeCasts_S64x64_S8x8x64) := by
  rw [← W₂_out]
  show after hostOps1 (W₂ m c) (Proc.devRef .tc main_v9) = _
  after_results
  rfl

/-- A transposed and flattened operand at an index. -/
theorem flat_q (x : Vec Ideal S8x1x8x64 .bf16) (b h : Fin 8) (d : Fin 64) :
    shapeCast S64x64 (transpose S8x8x1x64 [0, 2, 1, 3] x transposes_S8x1x8x64_S8x8x1x64_0_2_1_3) shapeCasts_S8x8x1x64_S64x64 (ix2 (row b h) d) = x (ix4 b 0 h d) := by
  unfold row
  pointwise
theorem flat_k (x : Vec Ideal S8x512x8x64 .bf16) (b h : Fin 8) (d : Fin 64) (kk : Fin 512) :
    shapeCast S64x64x512 (transpose S8x8x64x512 [0, 2, 3, 1] x transposes_S8x512x8x64_S8x8x64x512_0_2_3_1) shapeCasts_S8x8x64x512_S64x64x512 (ix3 (row b h) d kk)
      = x (ix4 b kk h d) := by
  unfold row
  pointwise
theorem flat_out (x : Vec Ideal S64x64 .f32) (b h : Fin 8) (d : Fin 64) :
    broadcastInDim S8x1x8x64 ![0, 2, 3] bcast_S8x8x64_S8x1x8x64_0_2_3 (shapeCast S8x8x64 x shapeCasts_S64x64_S8x8x64) (ix4 b 0 h d) = x (ix2 (row b h) d) := by
  unfold row
  pointwise

end Cert.VHost

end
-- ==== Proof.VPre.lean ====
/-
  The precondition at an index: every query and every key is a real number.
-/
module

public import proofs.«01_k».proof.Defs
public import proofs.«01_k».proof.Proof.Facts
public import Idealize.ShloMosaic.Lib.Pointwise
public import Idealize.ShloMosaic.Lib.ReduceAll
public import Idealize.ShloMosaic.Lib.Affine

@[expose] public section

set_option maxRecDepth 16384

noncomputable section

namespace Cert.VPre

open Idealize.ShloMosaic Cert.Pre_finite_queries_and_keys_KernelIdeal

theorem bits_high : Ideal.ofBits .bf16 0x7F80#16 = ⊤ := by
  simp [Ideal.ofBits, Ideal.ieee]

/-- A number whose size is below the greatest is real. -/
theorem real_of_abs {x : EReal} (h : (FloatOps.absf (F := Ideal) (φ := .bf16) x : EReal) < ⊤) : ∃ r : ℝ, x = (r : EReal) := by
  induction x using EReal.rec with
  | bot => exact absurd h (by simp [Ideal.absf_def])
  | coe r => exact ⟨r, rfl⟩
  | top => exact absurd h (by simp [Ideal.absf_def])

theorem lt_of_bit {P : Prop} [Decidable P] (h : BitVec.ofBool (decide P) = 1#1) : P := by
  by_contra hn
  rw [decide_eq_false hn] at h
  exact absurd h (by decide)

theorem finite (q : FVec Ideal S8x1x8x64 .bf16) (k v : FVec Ideal S8x512x8x64 .bf16)
    (h : letI := Cert.PreFacts.blocks; fn (F := Ideal) q k v = fun _ => 1#1) :
    (∀ i, ∃ r : ℝ, (q i : EReal) = r) ∧ ∀ i, ∃ r : ℝ, (k i : EReal) = r := by
  letI := Cert.PreFacts.blocks
  have h0 := congrFun h (fun a => a.elim0)
  dsimp only [fn] at h0
  have h1 := IntOp.andi_eq_one.mp h0
  exact ⟨fun i => by
      have e := Host.reduce_andi_all _ _ _ _ _ h1.1 i
      pointwise at e
      rw [bits_high] at e
      exact real_of_abs (lt_of_bit e),
    fun i => by
      have e := Host.reduce_andi_all _ _ _ _ _ h1.2 i
      pointwise at e
      rw [bits_high] at e
      exact real_of_abs (lt_of_bit e)⟩

end Cert.VPre

end
-- ==== Proof.VTie.lean ====
/-
  The idealized kernel's result is the reference's: each device's four blocks are the whole row's, whatever order it
  merges them in.
-/
module

public import proofs.«01_k».proof.Proof.VKernel
public import proofs.«01_k».proof.Proof.VRef
public import proofs.«01_k».proof.Proof.VHost
public import proofs.«01_k».proof.Proof.VPre
public import Idealize.ShloMosaic.Lib.Layout

@[expose] public section

set_option maxRecDepth 16384

noncomputable section

namespace Cert.VTie

open Cert.KernelIdeal Cert.KernelIdealRun Cert.VMath Cert.VKernel Cert.VHost
open Idealize.ShloMosaic Idealize.ShloMosaic.TcCoe

/-- A device's place on the axis that the keys and the values are cut along. -/
def place (c : Dev nD) : Fin 4 := ⟨c.val % 4, Nat.mod_lt _ (by decide)⟩

abbrev Whole : Shape := ⟨4, ![8, 2048, 8, 64]⟩

/-- A device's block of a whole array. -/
abbrev blk (c : Dev nD) (K : Vec Ideal Whole .bf16) : Vec Ideal S8x512x8x64 .bf16 :=
  Layout.blockN ⟨4, ![8, 512, 8, 64]⟩ ⟨4, ![8, 2048, 8, 64]⟩ (Layout.meshBlock [2, 4, 4] ![[], [2], [], []] c) K

theorem cut_val (c : Fin 32) : ((Layout.meshBlock [2, 4, 4] ![[], [2], [], []] c) (1 : Fin 4)).val = c.val % 4 := by
  revert c; decide

theorem blk_at (c : Dev nD) (K : Vec Ideal Whole .bf16) (b h : Fin 8) (d : Fin 64) (kk : Fin 512) :
    blk c K (ix4 b kk h d) = K (ix4 b (col (place c) kk) h d) := by
  show K _ = _
  congr 1; funext a; match a with
  | ⟨0, _⟩ => exact Fin.ext (show 0 * 8 + b.val = b.val by omega)
  | ⟨1, _⟩ => exact Fin.ext (show ((Layout.meshBlock [2, 4, 4] ![[], [2], [], []] c) (1 : Fin 4)).val * 512 + kk.val = 512 * (c.val % 4) + kk.val by rw [cut_val c]; omega)
  | ⟨2, _⟩ => exact Fin.ext (show 0 * 8 + h.val = h.val by omega)
  | ⟨3, _⟩ => exact Fin.ext (show 0 * 64 + d.val = d.val by omega)

/-- The order in which a device merges the blocks. -/
theorem place_dv (c : Dev nD) (t : Fin 4) : place (dv c t) = Equiv.subLeft (place c) t := by
  revert c t; decide

theorem scale_real : ∃ r : ℝ, scale = (r : EReal) := by
  unfold scale
  simp only [Ideal.ofBits, Ideal.ieee]
  split_ifs
  all_goals first | exact ⟨_, rfl⟩ | (exfalso; simp_all)

variable (m : (ℓ : Loc nD τ sig) → Buf (Elt Ideal) ℓ)
variable (Q : Vec Ideal S8x1x8x64 .bf16) (K V : Vec Ideal Whole .bf16)

section
variable (h0 : ∀ c : Dev nD, m ((c.tc : Thread nD τ).loc main_arg0) = Q)
  (h1 : ∀ c : Dev nD, m ((c.tc : Thread nD τ).loc main_arg1) = blk c K)
  (h2 : ∀ c : Dev nD, m ((c.tc : Thread nD τ).loc main_arg2) = blk c V)
include h0 h1 in
theorem score_at (c : Dev nD) (b h : Fin 8) (kk : Fin 512) :
    kscore (Xm m c) (row b h) kk = RefRun.scores (F := Ideal) Q K (ix4 b h 0 (col (place c) kk)) := by
  refine Eq.trans ?_ (VRef.scores_at Q K b h (col (place c) kk)).symm
  unfold kscore
  rw [q_eq, k_eq, h0, h1]
  unfold scale
  congr 1
  refine Finset.sum_congr rfl fun d _ => ?_
  rw [flat_q, flat_k, blk_at, mul_comm]

include h2 in
theorem val_at (c : Dev nD) (b h : Fin 8) (d : Fin 64) (kk : Fin 512) :
    kval (Xm m c) (row b h) d kk = (V (ix4 b (col (place c) kk) h d) : EReal) := by
  unfold kval
  rw [v_eq, h2, flat_k, blk_at]

/-- With real queries and keys every score is real. -/
theorem score_real (hQ : ∀ i, ∃ r : ℝ, (Q i : EReal) = r) (hK : ∀ c i, ∃ r : ℝ, (blk c K i : EReal) = r) (b h : Fin 8) (j : Fin 2048) :
    ∃ r : ℝ, (RefRun.scores (F := Ideal) Q K (ix4 b h 0 j) : EReal) = (r : EReal) := by
  obtain ⟨⟨z, kk⟩, rfl⟩ := colEquiv.surjective j
  have hz : place ⟨z.val, lt_of_lt_of_le z.isLt (by decide)⟩ = z := Fin.ext (Nat.mod_eq_of_lt z.isLt)
  have hk : ∀ d, ∃ r : ℝ, (K (ix4 b (col z kk) h d) : EReal) = r := fun d => by
    have e := hK ⟨z.val, lt_of_lt_of_le z.isLt (by decide)⟩ (ix4 b kk h d)
    rwa [blk_at, hz] at e
  choose q eq using hQ
  choose k ek using hk
  obtain ⟨s, es⟩ := scale_real
  refine ⟨(∑ d : Fin 64, q (ix4 b 0 h d) * k d) * s, ?_⟩
  refine (VRef.scores_at Q K b h (col z kk)).trans ?_
  rw [show Ideal.ofBits .f32 0x3E000000#32 = (s : EReal) from es, EReal.coe_mul, coe_sum]
  congr 1
  exact Finset.sum_congr rfl fun d _ => by rw [eq, ek, EReal.coe_mul]

include h0 h1 h2 in
/-- Each device ends with the reference's result. -/
theorem result (hQ : ∀ i, ∃ r : ℝ, (Q i : EReal) = r) (hK : ∀ c i, ∃ r : ℝ, (blk c K i : EReal) = r) (c : Dev nD) :
    W₃ m c (Proc.devRef .tc main_v9) = RefRun.out (F := Ideal) Q K V := by
  rw [VHost.out_eq]
  funext i
  idx_vars i
  obtain rfl : i1 = 0 := Subsingleton.elim _ _
  have hs : ∀ j, ∃ r : ℝ, (RefRun.scores (F := Ideal) Q K (ix4 i0 i2 0 j) : EReal) = (r : EReal) := score_real Q K hQ hK i0 i2
  choose g eg using hs
  let s : Fin 4 → Fin 512 → EReal := fun z kk => RefRun.scores (F := Ideal) Q K (ix4 i0 i2 0 (col z kk))
  let w : Fin 4 → Fin 512 → EReal := fun z kk => V (ix4 i0 (col z kk) i2 i3)
  have es : ∀ t, kscore (Xm m (dv c t)) (row i0 i2) = s (Equiv.subLeft (place c) t) := fun t => by
    funext kk; rw [score_at m Q K h0 h1, place_dv]
  have ew : ∀ t, kval (Xm m (dv c t)) (row i0 i2) i3 = w (Equiv.subLeft (place c) t) := fun t => by
    funext kk; rw [val_at m V h2, place_dv]
  refine (flat_out _ i0 i2 i3).trans ((outF_at (Xm m) c (row i0 i2) i3).trans (Eq.trans ?_ (VRef.out_at Q K V i0 i2 i3).symm))
  simp only [es, ew]
  have en := merge_turn (Equiv.subLeft (place c)) (fun z => top (s z)) fun z => num (s z) (w z)
  have ed := merge_turn (Equiv.subLeft (place c)) (fun z => top (s z)) fun z => den (s z)
  refine (congrArg₂ Ideal.div en ed).trans ((attention g (fun j => V (ix4 i0 j i2 i3)) s w (fun z kk => eg _) fun _ _ => rfl).trans ?_)
  congr 1
  funext j
  exact (eg j).symm

end

end Cert.VTie

end
-- ==== Proof.lean ====
/-
  The claims: both prints of the kernel and the reference run and leave their arguments and counters as they found
  them, and the idealized kernel and the reference end with the same result.
-/
module

public import proofs.«01_k».proof.Defs
public import proofs.«01_k».proof.Proof.KMain
public import proofs.«01_k».proof.Proof.IMain
public import proofs.«01_k».proof.Proof.Ref
public import proofs.«01_k».proof.Proof.Facts
public import proofs.«01_k».proof.Proof.VTie

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => ⟨(h.1 c _ rfl).trans (Cert.KernelRun.W₃_arg0 m c), (h.1 c _ rfl).trans (Cert.KernelRun.W₃_arg1 m c),
    (h.1 c _ rfl).trans (Cert.KernelRun.W₃_arg2 m c)⟩, h.2⟩) (Cert.KernelRun.run_main m g)

theorem frame_ideal : Cert.quiescent_KernelIdeal (hKernelIdeal := Cert.KernelIdeal.Gen.facts) := fun m g _ =>
  (θ_run _ _ _).mono (fun _ h => ⟨fun c => ⟨(h.1 c _ rfl).trans (Cert.KernelIdealRun.W₃_arg0 m c), (h.1 c _ rfl).trans (Cert.KernelIdealRun.W₃_arg1 m c),
    (h.1 c _ rfl).trans (Cert.KernelIdealRun.W₃_arg2 m c)⟩, h.2⟩) (Cert.KernelIdealRun.run_main m g)

theorem frame_reference : Cert.quiescent_ReferenceIdeal (hReferenceIdeal := Cert.ReferenceIdeal.Gen.facts) := fun m g _ =>
  (θ_run _ _ _).mono (fun _ h => ⟨fun c => (h.1 c).2, h.2⟩) (Cert.RefRun.run_main m g)

theorem algebraic : Cert.algebraic_KernelIdeal_ReferenceIdeal_pre_finite_queries_and_keys_KernelIdeal (hKernelIdeal := Cert.KernelIdeal.Gen.facts)
    (hReferenceIdeal := Cert.ReferenceIdeal.Gen.facts) (hPre_finite_queries_and_keys_KernelIdeal := Cert.PreFacts.blocks) := fun m g m' g' hp ha =>
  ⟨_, (θ_run _ _ _).mono (fun _ h c => ⟨(h.1 c _ rfl).trans (Cert.VTie.result m _ _ _ (fun c => (ha c).1) (fun c => (ha c).2.1) (fun c => (ha c).2.2)
        (fun i => by rw [← (ha 0).1]; exact (Cert.VPre.finite _ _ _ (hp 0)).1 i)
        (fun c i => by have e := (Cert.VPre.finite _ _ _ (hp c)).2 i; rw [(ha c).2.1] at e; exact e) c),
      (h.1 c _ rfl).trans (Cert.KernelIdealRun.W₃_arg0 m c), (h.1 c _ rfl).trans (Cert.KernelIdealRun.W₃_arg1 m c),
      (h.1 c _ rfl).trans (Cert.KernelIdealRun.W₃_arg2 m c)⟩) (Cert.KernelIdealRun.run_main m g),
    (θ_run _ _ _).mono (fun _ h => h.1 0) (Cert.RefRun.run_main m' g')⟩

theorem claim : Cert.Claim := ⟨Cert.Kernel.Gen.facts, Cert.KernelIdeal.Gen.facts, Cert.ReferenceIdeal.Gen.facts, Cert.PreFacts.blocks, Cert.PreFacts.whole,
  frame_kernel, frame_ideal, fun m g _ => frame_ideal m g trivial, frame_reference, fun m g _ => frame_reference m g trivial, trivial, algebraic⟩

end Cert.Proof

end
